-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S4x768x384 : Shape := ⟨3, ![4, 768, 384]⟩
abbrev S4x384x384 : Shape := ⟨3, ![4, 384, 384]⟩
abbrev S4x4 : Shape := ⟨2, ![4, 4]⟩
abbrev S_ : Shape := ⟨0, ![]⟩
abbrev S768x768 : Shape := ⟨2, ![768, 768]⟩
abbrev S768x384 : Shape := ⟨2, ![768, 384]⟩
abbrev S1x768x384 : Shape := ⟨3, ![1, 768, 384]⟩
abbrev S1x1 : Shape := ⟨2, ![1, 1]⟩
abbrev S384x384 : Shape := ⟨2, ![384, 384]⟩
abbrev S1x384x384 : Shape := ⟨3, ![1, 384, 384]⟩

abbrev nBuf : Space → Nat
  | .hbm => 3
  | .vmem => 11
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S1536x768, .bf16⟩
  | .local _ .vmem, ⟨4, _⟩ => ⟨S768x1536, .bf16⟩
  | .local _ .vmem, ⟨5, _⟩ => ⟨S4x768x384, .bf16⟩
  | .local _ .vmem, ⟨6, _⟩ => ⟨S4x768x384, .bf16⟩
  | .local _ .vmem, ⟨7, _⟩ => ⟨S4x384x384, .bf16⟩
  | .local _ .vmem, ⟨8, _⟩ => ⟨S4x384x384, .bf16⟩
  | .local _ .vmem, ⟨9, _⟩ => ⟨S4x768x384, .bf16⟩
  | .local _ .vmem, ⟨10, _⟩ => ⟨S4x768x384, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v28 : BitVec 32 := Scalar.subi c1_i32_18 v12
  let c768_i32 : BitVec 32 := 768#32
  let v29 : BitVec 32 := Scalar.muli v28 c768_i32
  let v30 : Index := Scalar.indexCast v29
  let c0_19 : Index := 0#32
  ![v30.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_31 : BitVec 32 := 1#32
  let v38 : BitVec 32 := Scalar.muli v3 c1_i32_31
  let v39 : BitVec 32 := Scalar.addi c0_i32_32 v38
  v39.toNat
def k0_off2 (d0 : Dev nD) : Fin 2 → Nat :=
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let v48 : BitVec 32 := Scalar.subi c1_i32_37 v14
  let c768_i32_38 : BitVec 32 := 768#32
  let v49 : BitVec 32 := Scalar.muli v48 c768_i32_38
  let v50 : Index := Scalar.indexCast v49
  let c0_39 : Index := 0#32
  ![v50.toNat, 0]
def k0_dev4 (d0 : Dev nD) : Nat :=
  let c0_i32_51 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_50 : BitVec 32 := 1#32
  let v58 : BitVec 32 := Scalar.muli v4 c1_i32_50
  let v59 : BitVec 32 := Scalar.addi c0_i32_51 v58
  v59.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_69 : BitVec 32 := 1#32
  let v78 : BitVec 32 := Scalar.muli v3 c1_i32_69
  let v79 : BitVec 32 := Scalar.addi c0_i32_70 v78
  v79.toNat
def k0_dev6 (d0 : Dev nD) : Nat :=
  let c0_i32_89 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_88 : BitVec 32 := 1#32
  let v98 : BitVec 32 := Scalar.muli v4 c1_i32_88
  let v99 : BitVec 32 := Scalar.addi c0_i32_89 v98
  v99.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c768_i32_94 : BitVec 32 := 768#32
  let v108 : BitVec 32 := Scalar.muli v12 c768_i32_94
  let v109 : Index := Scalar.indexCast v108
  let c0_95 : Index := 0#32
  ![v109.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c768_i32_99 : BitVec 32 := 768#32
  let v113 : BitVec 32 := Scalar.muli v12 c768_i32_99
  let v114 : Index := Scalar.indexCast v113
  let c0_100 : Index := 0#32
  ![v114.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c768_i32_101 : BitVec 32 := 768#32
  let v116 : BitVec 32 := Scalar.muli v14 c768_i32_101
  let v117 : Index := Scalar.indexCast v116
  let c0_102 : Index := 0#32
  ![v117.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c768_i32_106 : BitVec 32 := 768#32
  let v121 : BitVec 32 := Scalar.muli v14 c768_i32_106
  let v122 : Index := Scalar.indexCast v121
  let c384_107 : Index := 384#32
  ![v122.toNat, 384]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c768_i32_113 : BitVec 32 := 768#32
  let v129 : BitVec 32 := Scalar.muli v12 c768_i32_113
  let v130 : Index := Scalar.indexCast v129
  let c768_114 : Index := 768#32
  ![v130.toNat, 768]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c768_i32_120 : BitVec 32 := 768#32
  let v137 : BitVec 32 := Scalar.muli v14 c768_i32_120
  let v138 : Index := Scalar.indexCast v137
  let c1152_121 : Index := 1152#32
  ![v138.toNat, 1152]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c768_i32_145 : BitVec 32 := 768#32
  let v154 : BitVec 32 := Scalar.muli v12 c768_i32_145
  let c1_i32_146 : BitVec 32 := 1#32
  let c1_i32_8 : BitVec 32 := 1#32
  let v13 : BitVec 32 := Scalar.shrsi v2 c1_i32_8
  let c1_i32_9 : BitVec 32 := 1#32
  let v14 : BitVec 32 := Scalar.andi v13 c1_i32_9
  let v155 : BitVec 32 := Scalar.subi c1_i32_146 v14
  let c384_i32 : BitVec 32 := 384#32
  let v156 : BitVec 32 := Scalar.muli v155 c384_i32
  let v157 : BitVec 32 := Scalar.addi v154 v156
  let v158 : Index := Scalar.indexCast v157
  let c0_147 : Index := 0#32
  ![v158.toNat, 0]
def k0_off10 (d0 : Dev nD) : Fin 3 → Nat :=
  let c0_150 : Index := 0#32
  let c1_i32_148 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let v161 : BitVec 32 := Scalar.subi c1_i32_148 v14
  let c384_i32_149 : BitVec 32 := 384#32
  let v162 : BitVec 32 := Scalar.muli v161 c384_i32_149
  let v163 : Index := Scalar.indexCast v162
  let c0_151 : Index := 0#32
  ![0, v163.toNat, 0]
def k0_dev7 (d0 : Dev nD) : Nat :=
  let c0_i32_162 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_161 : BitVec 32 := 1#32
  let v172 : BitVec 32 := Scalar.muli v4 c1_i32_161
  let v173 : BitVec 32 := Scalar.addi c0_i32_162 v172
  v173.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c768_i32_167 : BitVec 32 := 768#32
  let v182 : BitVec 32 := Scalar.muli v12 c768_i32_167
  let c1_i32_8 : BitVec 32 := 1#32
  let v13 : BitVec 32 := Scalar.shrsi v2 c1_i32_8
  let c1_i32_9 : BitVec 32 := 1#32
  let v14 : BitVec 32 := Scalar.andi v13 c1_i32_9
  let c384_i32_168 : BitVec 32 := 384#32
  let v183 : BitVec 32 := Scalar.muli v14 c384_i32_168
  let v184 : BitVec 32 := Scalar.addi v182 v183
  let v185 : Index := Scalar.indexCast v184
  let c0_169 : Index := 0#32
  ![v185.toNat, 0]
def k0_off12 (d0 : Dev nD) : Fin 3 → Nat :=
  let c0_171 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c384_i32_170 : BitVec 32 := 384#32
  let v188 : BitVec 32 := Scalar.muli v14 c384_i32_170
  let v189 : Index := Scalar.indexCast v188
  let c0_172 : Index := 0#32
  ![0, v189.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c768_i32_197 : BitVec 32 := 768#32
  let v210 : BitVec 32 := Scalar.muli v14 c768_i32_197
  let c1_i32_198 : BitVec 32 := 1#32
  let c1_i32_10 : BitVec 32 := 1#32
  let v15 : BitVec 32 := Scalar.andi v2 c1_i32_10
  let v211 : BitVec 32 := Scalar.subi c1_i32_198 v15
  let c384_i32_199 : BitVec 32 := 384#32
  let v212 : BitVec 32 := Scalar.muli v211 c384_i32_199
  let v213 : BitVec 32 := Scalar.addi v210 v212
  let v214 : Index := Scalar.indexCast v213
  let c384_200 : Index := 384#32
  ![v214.toNat, 384]
def k0_off14 (d0 : Dev nD) : Fin 3 → Nat :=
  let c1_203 : Index := 1#32
  let c1_i32_201 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v15 : BitVec 32 := Scalar.andi v2 c1_i32_10
  let v217 : BitVec 32 := Scalar.subi c1_i32_201 v15
  let c384_i32_202 : BitVec 32 := 384#32
  let v218 : BitVec 32 := Scalar.muli v217 c384_i32_202
  let v219 : Index := Scalar.indexCast v218
  let c0_204 : Index := 0#32
  ![1, v219.toNat, 0]
def k0_dev8 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_214 : BitVec 32 := 1#32
  let v228 : BitVec 32 := Scalar.muli v3 c1_i32_214
  let v229 : BitVec 32 := Scalar.addi c0_i32_215 v228
  v229.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c768_i32_220 : BitVec 32 := 768#32
  let v238 : BitVec 32 := Scalar.muli v14 c768_i32_220
  let c1_i32_10 : BitVec 32 := 1#32
  let v15 : BitVec 32 := Scalar.andi v2 c1_i32_10
  let c384_i32_221 : BitVec 32 := 384#32
  let v239 : BitVec 32 := Scalar.muli v15 c384_i32_221
  let v240 : BitVec 32 := Scalar.addi v238 v239
  let v241 : Index := Scalar.indexCast v240
  let c384_222 : Index := 384#32
  ![v241.toNat, 384]
def k0_off16 (d0 : Dev nD) : Fin 3 → Nat :=
  let c1_224 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v15 : BitVec 32 := Scalar.andi v2 c1_i32_10
  let c384_i32_223 : BitVec 32 := 384#32
  let v244 : BitVec 32 := Scalar.muli v15 c384_i32_223
  let v245 : Index := Scalar.indexCast v244
  let c0_225 : Index := 0#32
  ![1, v245.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c768_i32_250 : BitVec 32 := 768#32
  let v266 : BitVec 32 := Scalar.muli v12 c768_i32_250
  let c1_i32_251 : BitVec 32 := 1#32
  let c1_i32_8 : BitVec 32 := 1#32
  let v13 : BitVec 32 := Scalar.shrsi v2 c1_i32_8
  let c1_i32_9 : BitVec 32 := 1#32
  let v14 : BitVec 32 := Scalar.andi v13 c1_i32_9
  let v267 : BitVec 32 := Scalar.subi c1_i32_251 v14
  let c384_i32_252 : BitVec 32 := 384#32
  let v268 : BitVec 32 := Scalar.muli v267 c384_i32_252
  let v269 : BitVec 32 := Scalar.addi v266 v268
  let v270 : Index := Scalar.indexCast v269
  let c768_253 : Index := 768#32
  ![v270.toNat, 768]
def k0_off18 (d0 : Dev nD) : Fin 3 → Nat :=
  let c2_256 : Index := 2#32
  let c1_i32_254 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let v273 : BitVec 32 := Scalar.subi c1_i32_254 v14
  let c384_i32_255 : BitVec 32 := 384#32
  let v274 : BitVec 32 := Scalar.muli v273 c384_i32_255
  let v275 : Index := Scalar.indexCast v274
  let c0_257 : Index := 0#32
  ![2, v275.toNat, 0]
def k0_dev9 (d0 : Dev nD) : Nat :=
  let c0_i32_268 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_267 : BitVec 32 := 1#32
  let v284 : BitVec 32 := Scalar.muli v4 c1_i32_267
  let v285 : BitVec 32 := Scalar.addi c0_i32_268 v284
  v285.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let c768_i32_273 : BitVec 32 := 768#32
  let v294 : BitVec 32 := Scalar.muli v12 c768_i32_273
  let c1_i32_8 : BitVec 32 := 1#32
  let v13 : BitVec 32 := Scalar.shrsi v2 c1_i32_8
  let c1_i32_9 : BitVec 32 := 1#32
  let v14 : BitVec 32 := Scalar.andi v13 c1_i32_9
  let c384_i32_274 : BitVec 32 := 384#32
  let v295 : BitVec 32 := Scalar.muli v14 c384_i32_274
  let v296 : BitVec 32 := Scalar.addi v294 v295
  let v297 : Index := Scalar.indexCast v296
  let c768_275 : Index := 768#32
  ![v297.toNat, 768]
def k0_off20 (d0 : Dev nD) : Fin 3 → Nat :=
  let c2_277 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c384_i32_276 : BitVec 32 := 384#32
  let v300 : BitVec 32 := Scalar.muli v14 c384_i32_276
  let v301 : Index := Scalar.indexCast v300
  let c0_278 : Index := 0#32
  ![2, v301.toNat, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c768_i32_303 : BitVec 32 := 768#32
  let v322 : BitVec 32 := Scalar.muli v14 c768_i32_303
  let c1_i32_304 : BitVec 32 := 1#32
  let c1_i32_10 : BitVec 32 := 1#32
  let v15 : BitVec 32 := Scalar.andi v2 c1_i32_10
  let v323 : BitVec 32 := Scalar.subi c1_i32_304 v15
  let c384_i32_305 : BitVec 32 := 384#32
  let v324 : BitVec 32 := Scalar.muli v323 c384_i32_305
  let v325 : BitVec 32 := Scalar.addi v322 v324
  let v326 : Index := Scalar.indexCast v325
  let c1152_306 : Index := 1152#32
  ![v326.toNat, 1152]
def k0_off22 (d0 : Dev nD) : Fin 3 → Nat :=
  let c3_309 : Index := 3#32
  let c1_i32_307 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v15 : BitVec 32 := Scalar.andi v2 c1_i32_10
  let v329 : BitVec 32 := Scalar.subi c1_i32_307 v15
  let c384_i32_308 : BitVec 32 := 384#32
  let v330 : BitVec 32 := Scalar.muli v329 c384_i32_308
  let v331 : Index := Scalar.indexCast v330
  let c0_310 : Index := 0#32
  ![3, v331.toNat, 0]
def k0_dev10 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_320 : BitVec 32 := 1#32
  let v340 : BitVec 32 := Scalar.muli v3 c1_i32_320
  let v341 : BitVec 32 := Scalar.addi c0_i32_321 v340
  v341.toNat
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c768_i32_326 : BitVec 32 := 768#32
  let v350 : BitVec 32 := Scalar.muli v14 c768_i32_326
  let c1_i32_10 : BitVec 32 := 1#32
  let v15 : BitVec 32 := Scalar.andi v2 c1_i32_10
  let c384_i32_327 : BitVec 32 := 384#32
  let v351 : BitVec 32 := Scalar.muli v15 c384_i32_327
  let v352 : BitVec 32 := Scalar.addi v350 v351
  let v353 : Index := Scalar.indexCast v352
  let c1152_328 : Index := 1152#32
  ![v353.toNat, 1152]
def k0_off24 (d0 : Dev nD) : Fin 3 → Nat :=
  let c3_330 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v15 : BitVec 32 := Scalar.andi v2 c1_i32_10
  let c384_i32_329 : BitVec 32 := 384#32
  let v356 : BitVec 32 := Scalar.muli v15 c384_i32_329
  let v357 : Index := Scalar.indexCast v356
  let c0_331 : Index := 0#32
  ![3, v357.toNat, 0]
def k0_off25 (d0 : Dev nD) : Fin 3 → Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c384_i32_369 : BitVec 32 := 384#32
  let v404 : BitVec 32 := Scalar.muli v14 c384_i32_369
  let c0_i32_378 : BitVec 32 := 0#32
  ![0, v404.toNat, 0]
def k0_dev11 (d0 : Dev nD) : Nat :=
  let c0_i32_377 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_376 : BitVec 32 := 1#32
  let v405 : BitVec 32 := Scalar.muli v4 c1_i32_376
  let v406 : BitVec 32 := Scalar.addi c0_i32_377 v405
  v406.toNat
def k0_off26 (d0 : Dev nD) : Fin 3 → Nat :=
  let c1_i32_418 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v15 : BitVec 32 := Scalar.andi v2 c1_i32_10
  let c384_i32_416 : BitVec 32 := 384#32
  let v455 : BitVec 32 := Scalar.muli v15 c384_i32_416
  let c0_i32_425 : BitVec 32 := 0#32
  ![1, v455.toNat, 0]
def k0_dev12 (d0 : Dev nD) : Nat :=
  let c0_i32_424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_423 : BitVec 32 := 1#32
  let v456 : BitVec 32 := Scalar.muli v3 c1_i32_423
  let v457 : BitVec 32 := Scalar.addi c0_i32_424 v456
  v457.toNat
def k0_off27 (d0 : Dev nD) : Fin 3 → Nat :=
  let c2_i32_465 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let c384_i32_463 : BitVec 32 := 384#32
  let v506 : BitVec 32 := Scalar.muli v14 c384_i32_463
  let c0_i32_472 : BitVec 32 := 0#32
  ![2, v506.toNat, 0]
def k0_dev13 (d0 : Dev nD) : Nat :=
  let c0_i32_471 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_470 : BitVec 32 := 1#32
  let v507 : BitVec 32 := Scalar.muli v4 c1_i32_470
  let v508 : BitVec 32 := Scalar.addi c0_i32_471 v507
  v508.toNat
def k0_off28 (d0 : Dev nD) : Fin 3 → Nat :=
  let c3_i32_512 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v15 : BitVec 32 := Scalar.andi v2 c1_i32_10
  let c384_i32_510 : BitVec 32 := 384#32
  let v557 : BitVec 32 := Scalar.muli v15 c384_i32_510
  let c0_i32_519 : BitVec 32 := 0#32
  ![3, v557.toNat, 0]
def k0_dev14 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_517 : BitVec 32 := 1#32
  let v558 : BitVec 32 := Scalar.muli v3 c1_i32_517
  let v559 : BitVec 32 := Scalar.addi c0_i32_518 v558
  v559.toNat
def k0_dev15 (d0 : Dev nD) : Nat :=
  let c0_i32_547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_546 : BitVec 32 := 1#32
  let v582 : BitVec 32 := Scalar.muli v3 c1_i32_546
  let v583 : BitVec 32 := Scalar.addi c0_i32_547 v582
  v583.toNat
def k0_dev16 (d0 : Dev nD) : Nat :=
  let c0_i32_586 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_585 : BitVec 32 := 1#32
  let v618 : BitVec 32 := Scalar.muli v4 c1_i32_585
  let v619 : BitVec 32 := Scalar.addi c0_i32_586 v618
  v619.toNat
def k0_dev17 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_624 : BitVec 32 := 1#32
  let v654 : BitVec 32 := Scalar.muli v3 c1_i32_624
  let v655 : BitVec 32 := Scalar.addi c0_i32_625 v654
  v655.toNat
def k0_dev18 (d0 : Dev nD) : Nat :=
  let c0_i32_664 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_663 : BitVec 32 := 1#32
  let v690 : BitVec 32 := Scalar.muli v4 c1_i32_663
  let v691 : BitVec 32 := Scalar.addi c0_i32_664 v690
  v691.toNat
def k0_off29 (d0 : Dev nD) : Fin 2 → Nat :=
  let c1_i32_703 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v729 : BitVec 32 := Scalar.subi c1_i32_703 v12
  let c768_i32_704 : BitVec 32 := 768#32
  let v730 : BitVec 32 := Scalar.muli v729 c768_i32_704
  let v731 : Index := Scalar.indexCast v730
  let c0_705 : Index := 0#32
  ![v731.toNat, 0]
def k0_off30 (d0 : Dev nD) : Fin 2 → Nat :=
  let c1_i32_732 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let v750 : BitVec 32 := Scalar.subi c1_i32_732 v14
  let c768_i32_733 : BitVec 32 := 768#32
  let v751 : BitVec 32 := Scalar.muli v750 c768_i32_733
  let v752 : Index := Scalar.indexCast v751
  let c384_734 : Index := 384#32
  ![v752.toNat, 384]
def k0_off31 (d0 : Dev nD) : Fin 2 → Nat :=
  let c1_i32_761 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v10 : BitVec 32 := Scalar.shrsi v2 c1_i32_6
  let v11 : BitVec 32 := Scalar.xori v2 v10
  let c1_i32_7 : BitVec 32 := 1#32
  let v12 : BitVec 32 := Scalar.andi v11 c1_i32_7
  let v771 : BitVec 32 := Scalar.subi c1_i32_761 v12
  let c768_i32_762 : BitVec 32 := 768#32
  let v772 : BitVec 32 := Scalar.muli v771 c768_i32_762
  let v773 : Index := Scalar.indexCast v772
  let c768_763 : Index := 768#32
  ![v773.toNat, 768]
def k0_off32 (d0 : Dev nD) : Fin 2 → Nat :=
  let c1_i32_790 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.shrsi v2 c1_i32_8
  let c1_i32_9 : BitVec 32 := 1#32
  let v14 : BitVec 32 := Scalar.andi v13 c1_i32_9
  let v792 : BitVec 32 := Scalar.subi c1_i32_790 v14
  let c768_i32_791 : BitVec 32 := 768#32
  let v793 : BitVec 32 := Scalar.muli v792 c768_i32_791
  let v794 : Index := Scalar.indexCast v793
  let c1152_792 : Index := 1152#32
  ![v794.toNat, 1152]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1536x3072, .f32⟩
  | .hbm, ⟨1, _⟩ => ⟨S3072x1536, .f32⟩
  | .hbm, ⟨2, _⟩ => ⟨S1536x1536, .f32⟩
  | .hbm, ⟨3, _⟩ => ⟨S1536x1536, .f32⟩
  | .hbm, ⟨4, _⟩ => ⟨S1536x1536, .f32⟩
  | .hbm, ⟨5, _⟩ => ⟨S_, .f32⟩
  | .hbm, ⟨6, _⟩ => ⟨S1536x1536, .f32⟩
  | .hbm, ⟨7, _⟩ => ⟨S1536x1536, .f32⟩
  | .hbm, ⟨8, _⟩ => ⟨S1536x1536, .f32⟩
  | _, _ => ⟨S1536x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Mesh.lean ====
/-
# The four devices as a square

Device `c` exchanges with two partners only: across one edge of the square (`1` flips the low bit) and across the
other (`3 - c`, which flips both). The columns of the result are cut into four streams; an even stream uses the
first partner first and the second partner second, an odd stream the other way round. On each stream a device is
responsible for one half of the rows (`half`) and, inside that half, for one quarter of all rows (`quar`).

This module holds that arithmetic and reads the printed device and offset chains of the kernel in it.
-/
module

public import proofs.«01_k».proof.Proof.Gen.KernelIdeal
public import Idealize.ShloMosaic.Lib.Pipeline.Kit

@[expose] public section

noncomputable section

namespace Cert.KernelIdeal.Sq

open Cert.KernelIdeal Cert.KernelIdeal.Gen
open Idealize.ShloMosaic

/-- The partner across the edge `b`: `false` flips the low bit, `true` flips both bits. -/
def partner (c : Dev nD) (b : Bool) : Dev nD :=
  if b then ⟨3 - c.val, by have := c.isLt; simp only [nD] at *; omega⟩ else ⟨c.val + 1 - 2 * (c.val % 2), by have := c.isLt; simp only [nD] at *; omega⟩

/-- Whether a stream is odd: its first exchange then goes across the edge `true`. -/
def odd (s : Fin 4) : Bool := decide (s.val % 2 = 1)

/-- The partner of the first and last exchange of stream `s`. -/
abbrev pa (c : Dev nD) (s : Fin 4) : Dev nD := partner c (odd s)
/-- The partner of the two middle exchanges of stream `s`. -/
abbrev pb (c : Dev nD) (s : Fin 4) : Dev nD := partner c (!odd s)

/-- The partner of exchange `ph` of stream `s`. -/
def peer (c : Dev nD) (s : Fin 4) (ph : Fin 4) : Dev nD := if ph = 0 ∨ ph = 3 then pa c s else pb c s

/-- The half of the rows device `c` reduces on stream `s`. -/
def half (c : Dev nD) (s : Fin 4) : Fin 2 :=
  if odd s then ⟨c.val / 2 % 2, by omega⟩ else ⟨(c.val + c.val / 2) % 2, by omega⟩
/-- The quarter, inside that half, that device `c` finishes on stream `s`. -/
def quar (c : Dev nD) (s : Fin 4) : Fin 2 :=
  if odd s then ⟨c.val % 2, by omega⟩ else ⟨c.val / 2 % 2, by omega⟩

theorem partner_partner (c : Dev nD) (b : Bool) : partner (partner c b) b = c := by revert c b; decide
theorem peer_peer (c : Dev nD) (s ph : Fin 4) : peer (peer c s ph) s ph = c := by revert c s ph; decide
theorem half_pa (c : Dev nD) (s : Fin 4) : half (pa c s) s = 1 - half c s := by revert c s; decide
theorem half_pb (c : Dev nD) (s : Fin 4) : half (pb c s) s = half c s := by revert c s; decide
theorem quar_pb (c : Dev nD) (s : Fin 4) : quar (pb c s) s = 1 - quar c s := by revert c s; decide
theorem pa_pb (c : Dev nD) (s : Fin 4) : pa (pb c s) s = pb (pa c s) s := by revert c s; decide
theorem pa_pa (c : Dev nD) (s : Fin 4) : pa (pa c s) s = c := partner_partner c _
theorem pb_pb (c : Dev nD) (s : Fin 4) : pb (pb c s) s = c := partner_partner c _
theorem peer_pa (c : Dev nD) (s ph : Fin 4) (h : ph = 0 ∨ ph = 3) : peer c s ph = pa c s := if_pos h
theorem peer_pb (c : Dev nD) (s ph : Fin 4) (h : ph = 1 ∨ ph = 2) : peer c s ph = pb c s := by
  unfold peer; rw [if_neg]; rcases h with rfl | rfl <;> decide
theorem sub_sub_fin2 (r : Fin 2) : 1 - (1 - r) = r := by revert r; decide
theorem ne_sub_fin2 (r : Fin 2) : r ≠ 1 - r := by revert r; decide

/-- The four devices seen from any one of them along a stream: itself, its two partners and the one opposite. -/
theorem devs_around (c : Dev nD) (s : Fin 4) :
    ({c, pa c s, pb c s, pa (pb c s) s} : Finset (Dev nD)) = Finset.univ := by revert c s; decide

/-! ## The device chains -/

/-- A device chain that comes out at a value below four names the device of that value. -/
theorem dev1_eq (c : Dev nD) : (⟨k0_dev1 c, k0_dev1_lt c⟩ : Dev nD) = partner c false := by revert c; decide +kernel
theorem dev2_eq (c : Dev nD) : (⟨k0_dev2 c, k0_dev2_lt c⟩ : Dev nD) = partner c true := by revert c; decide +kernel
theorem dev3_eq (c : Dev nD) : (⟨k0_dev3 c, k0_dev3_lt c⟩ : Dev nD) = pa c 0 := by revert c; decide +kernel
theorem dev4_eq (c : Dev nD) : (⟨k0_dev4 c, k0_dev4_lt c⟩ : Dev nD) = pa c 1 := by revert c; decide +kernel
theorem dev5_eq (c : Dev nD) : (⟨k0_dev5 c, k0_dev5_lt c⟩ : Dev nD) = pa c 2 := by revert c; decide +kernel
theorem dev6_eq (c : Dev nD) : (⟨k0_dev6 c, k0_dev6_lt c⟩ : Dev nD) = pa c 3 := by revert c; decide +kernel
theorem dev7_eq (c : Dev nD) : (⟨k0_dev7 c, k0_dev7_lt c⟩ : Dev nD) = pb c 0 := by revert c; decide +kernel
theorem dev8_eq (c : Dev nD) : (⟨k0_dev8 c, k0_dev8_lt c⟩ : Dev nD) = pb c 1 := by revert c; decide +kernel
theorem dev9_eq (c : Dev nD) : (⟨k0_dev9 c, k0_dev9_lt c⟩ : Dev nD) = pb c 2 := by revert c; decide +kernel
theorem dev10_eq (c : Dev nD) : (⟨k0_dev10 c, k0_dev10_lt c⟩ : Dev nD) = pb c 3 := by revert c; decide +kernel
theorem dev11_eq (c : Dev nD) : (⟨k0_dev11 c, k0_dev11_lt c⟩ : Dev nD) = pb c 0 := by revert c; decide +kernel
theorem dev12_eq (c : Dev nD) : (⟨k0_dev12 c, k0_dev12_lt c⟩ : Dev nD) = pb c 1 := by revert c; decide +kernel
theorem dev13_eq (c : Dev nD) : (⟨k0_dev13 c, k0_dev13_lt c⟩ : Dev nD) = pb c 2 := by revert c; decide +kernel
theorem dev14_eq (c : Dev nD) : (⟨k0_dev14 c, k0_dev14_lt c⟩ : Dev nD) = pb c 3 := by revert c; decide +kernel
theorem dev15_eq (c : Dev nD) : (⟨k0_dev15 c, k0_dev15_lt c⟩ : Dev nD) = pa c 0 := by revert c; decide +kernel
theorem dev16_eq (c : Dev nD) : (⟨k0_dev16 c, k0_dev16_lt c⟩ : Dev nD) = pa c 1 := by revert c; decide +kernel
theorem dev17_eq (c : Dev nD) : (⟨k0_dev17 c, k0_dev17_lt c⟩ : Dev nD) = pa c 2 := by revert c; decide +kernel
theorem dev18_eq (c : Dev nD) : (⟨k0_dev18 c, k0_dev18_lt c⟩ : Dev nD) = pa c 3 := by revert c; decide +kernel

/-! ## The offsets

Rows `r * 768` of an operand; rows and columns of the result; a slot, and a quarter of it, of a four-slot buffer. -/

/-- Where half `r` of the left operand starts. -/
abbrev oA (r : Fin 2) : Fin 2 → Nat := ![r.val * 768, 0]
/-- Where half `r` of stream `s` of the result starts. -/
abbrev oH (r : Fin 2) (s : Fin 4) : Fin 2 → Nat := ![r.val * 768, s.val * 384]
/-- Where quarter `q` of half `r` of stream `s` of the result starts. -/
abbrev oQ (r q : Fin 2) (s : Fin 4) : Fin 2 → Nat := ![r.val * 768 + q.val * 384, s.val * 384]
/-- Where quarter `q` of slot `s` starts. -/
abbrev oS (s : Fin 4) (q : Fin 2) : Fin 3 → Nat := ![s.val, q.val * 384, 0]

theorem off1_eq0 (c : Dev nD) : k0_off1 c = oA (1 - half c 0) := by revert c; decide +kernel
theorem off1_eq2 (c : Dev nD) : k0_off1 c = oA (1 - half c 2) := by revert c; decide +kernel
theorem off2_eq1 (c : Dev nD) : k0_off2 c = oA (1 - half c 1) := by revert c; decide +kernel
theorem off2_eq3 (c : Dev nD) : k0_off2 c = oA (1 - half c 3) := by revert c; decide +kernel
theorem off3_eq0 (c : Dev nD) : k0_off3 c = oA (half c 0) := by revert c; decide +kernel
theorem off3_eq2 (c : Dev nD) : k0_off3 c = oA (half c 2) := by revert c; decide +kernel
theorem off5_eq1 (c : Dev nD) : k0_off5 c = oA (half c 1) := by revert c; decide +kernel
theorem off5_eq3 (c : Dev nD) : k0_off5 c = oA (half c 3) := by revert c; decide +kernel
theorem off4_eq (c : Dev nD) : k0_off4 c = oH (half c 0) 0 := by revert c; decide +kernel
theorem off6_eq (c : Dev nD) : k0_off6 c = oH (half c 1) 1 := by revert c; decide +kernel
theorem off7_eq (c : Dev nD) : k0_off7 c = oH (half c 2) 2 := by revert c; decide +kernel
theorem off8_eq (c : Dev nD) : k0_off8 c = oH (half c 3) 3 := by revert c; decide +kernel
theorem off9_eq (c : Dev nD) : k0_off9 c = oQ (half c 0) (1 - quar c 0) 0 := by revert c; decide +kernel
theorem off13_eq (c : Dev nD) : k0_off13 c = oQ (half c 1) (1 - quar c 1) 1 := by revert c; decide +kernel
theorem off17_eq (c : Dev nD) : k0_off17 c = oQ (half c 2) (1 - quar c 2) 2 := by revert c; decide +kernel
theorem off21_eq (c : Dev nD) : k0_off21 c = oQ (half c 3) (1 - quar c 3) 3 := by revert c; decide +kernel
theorem off11_eq (c : Dev nD) : k0_off11 c = oQ (half c 0) (quar c 0) 0 := by revert c; decide +kernel
theorem off15_eq (c : Dev nD) : k0_off15 c = oQ (half c 1) (quar c 1) 1 := by revert c; decide +kernel
theorem off19_eq (c : Dev nD) : k0_off19 c = oQ (half c 2) (quar c 2) 2 := by revert c; decide +kernel
theorem off23_eq (c : Dev nD) : k0_off23 c = oQ (half c 3) (quar c 3) 3 := by revert c; decide +kernel
theorem off10_eq (c : Dev nD) : k0_off10 c = oS 0 (1 - quar c 0) := by revert c; decide +kernel
theorem off14_eq (c : Dev nD) : k0_off14 c = oS 1 (1 - quar c 1) := by revert c; decide +kernel
theorem off18_eq (c : Dev nD) : k0_off18 c = oS 2 (1 - quar c 2) := by revert c; decide +kernel
theorem off22_eq (c : Dev nD) : k0_off22 c = oS 3 (1 - quar c 3) := by revert c; decide +kernel
theorem off12_eq (c : Dev nD) : k0_off12 c = oS 0 (quar c 0) := by revert c; decide +kernel
theorem off16_eq (c : Dev nD) : k0_off16 c = oS 1 (quar c 1) := by revert c; decide +kernel
theorem off20_eq (c : Dev nD) : k0_off20 c = oS 2 (quar c 2) := by revert c; decide +kernel
theorem off24_eq (c : Dev nD) : k0_off24 c = oS 3 (quar c 3) := by revert c; decide +kernel
theorem off25_eq (c : Dev nD) : k0_off25 c = oS 0 (quar c 0) := by revert c; decide +kernel
theorem off26_eq (c : Dev nD) : k0_off26 c = oS 1 (quar c 1) := by revert c; decide +kernel
theorem off27_eq (c : Dev nD) : k0_off27 c = oS 2 (quar c 2) := by revert c; decide +kernel
theorem off28_eq (c : Dev nD) : k0_off28 c = oS 3 (quar c 3) := by revert c; decide +kernel
theorem off29_eq (c : Dev nD) : k0_off29 c = oH (1 - half c 0) 0 := by revert c; decide +kernel
theorem off30_eq (c : Dev nD) : k0_off30 c = oH (1 - half c 1) 1 := by revert c; decide +kernel
theorem off31_eq (c : Dev nD) : k0_off31 c = oH (1 - half c 2) 2 := by revert c; decide +kernel
theorem off32_eq (c : Dev nD) : k0_off32 c = oH (1 - half c 3) 3 := by revert c; decide +kernel

end Cert.KernelIdeal.Sq

end
-- ==== Proof.Regions.lean ====
/-
# Rectangles of the buffers and what they hold

`on R v f` says that contents `f` of a whole buffer read `v` on the rectangle `R`. Loads, stores and landed copies are
stated in it once, for any buffer: a load through a rectangle inside `R` reads the matching part of `v`; a store
through `R` makes `on R` of the stored value and keeps `on R'` for every disjoint `R'`; a copy between squeezed slots
carries `v` across.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## Reading and writing rectangles -/

section On

variable {b : Ref sig .tc}

/-- Contents `f` of buffer `b` read `v` on the rectangle `R`. -/
def on (R : Rect b.ty.shape) (v : R.shape.Idx → Elt F b.ty.elt) (f : b.ty.Contents (Elt F)) : Prop := ∀ j, f (R.emb j) = v j

theorem on_self (R : Rect b.ty.shape) (f : b.ty.Contents (Elt F)) : on R (fun j => f (R.emb j)) f := fun _ => rfl

/-- A load through `R` reads what `f` reads there. -/
theorem readAt_on {R : Rect b.ty.shape} {v : R.shape.Idx → Elt F b.ty.elt} {f : b.ty.Contents (Elt F)} (h : on R v f) :
    (Memref.whole b : Memref sig .tc _ _ _).view.readAt (Elt F) R.toLoadRect f = v := funext fun j => h j

/-- A rectangle inside a rectangle reads the matching part. -/
theorem on_sub {n : Nat} {d o z o₃ z₃ o' : Fin n → Nat} {α : Type} {inb : ∀ a, o a + z a ≤ d a} {inb₃ : ∀ a, o₃ a + z₃ a ≤ z a}
    {inb' : ∀ a, o' a + z₃ a ≤ d a} (ho : ∀ a, o' a = o a + o₃ a) (j : Shape.Idx ⟨n, z₃⟩) :
    (Rect.unit (s := ⟨n, d⟩) o' z₃ inb').emb j
      = (Rect.unit (s := ⟨n, d⟩) o z inb).emb ((Rect.unit (s := ⟨n, z⟩) o₃ z₃ inb₃).emb j) :=
  funext fun a => Fin.ext (by simp only [Rect.emb_apply, Rect.off_unit, Rect.stride_unit, ho a]; omega)

/-- What a store through `R` leaves there. -/
theorem on_write (R : Rect b.ty.shape) (f : b.ty.Contents (Elt F)) (w : R.shape.Idx → Elt F b.ty.elt) :
    on R w (((Memref.whole b : Memref sig .tc _ _ _).access R).write (Elt F) f w Finset.univ) :=
  fun j => View.write_emb_of_mem (Val := Elt F) (v := (Memref.whole b : Memref sig .tc _ _ _).access R) f w (Finset.mem_univ j)

theorem setOn_access (R : Rect b.ty.shape) : ((Memref.whole b : Memref sig .tc _ _ _).access R).setOn Finset.univ = R.set := by
  rw [View.setOn_univ]; exact View.set_slice_whole b R

/-- What a store through `R` leaves elsewhere. -/
theorem write_off (R : Rect b.ty.shape) (f : b.ty.Contents (Elt F)) (w : R.shape.Idx → Elt F b.ty.elt) {i : b.ty.shape.Idx} (hi : i ∉ R.set) :
    ((Memref.whole b : Memref sig .tc _ _ _).access R).write (Elt F) f w Finset.univ i = f i :=
  View.write_of_not_mem (Val := Elt F) f w Finset.univ (by rw [setOn_access]; exact hi)

theorem on_write_off {R R' : Rect b.ty.shape} {v : R'.shape.Idx → Elt F b.ty.elt} {f : b.ty.Contents (Elt F)} (w : R.shape.Idx → Elt F b.ty.elt)
    (hd : Disjoint R.set R'.set) (h : on R' v f) :
    on R' v (((Memref.whole b : Memref sig .tc _ _ _).access R).write (Elt F) f w Finset.univ) :=
  fun j => (write_off R f w (Finset.disjoint_right.mp hd (R'.toLoadRect.idx_mem j))).trans (h j)

/-- Contents that agree on a rectangle read the same there. -/
theorem on_congr {R : Rect b.ty.shape} {v : R.shape.Idx → Elt F b.ty.elt} {f g : b.ty.Contents (Elt F)} (h : on R v f) (hg : ∀ i ∈ R.set, g i = f i) :
    on R v g := fun j => (hg _ (R.toLoadRect.idx_mem j)).trans (h j)

theorem on_unique {R : Rect b.ty.shape} {v : R.shape.Idx → Elt F b.ty.elt} {f g : b.ty.Contents (Elt F)} (h : on R v f) (hg : on R v g) :
    ∀ i ∈ R.set, f i = g i := fun i hi => by
  obtain ⟨j, rfl⟩ := R.toLoadRect.exists_idx_of_mem hi; exact (h j).trans (hg j).symm

/-- A slot seen through its squeezed view. -/
theorem read_slot {R : Rect b.ty.shape} {v : R.shape.Idx → Elt F b.ty.elt} {f : b.ty.Contents (Elt F)} {S : Shape} (hS : S.numel = R.shape.numel)
    (h : on R v f) : (((View.whole b : View sig .tc _ _ _).slice R).reshape S hS).read (Elt F) f = fun x => v (Shape.reshapeEquiv hS x) :=
  funext fun x => h _

theorem on_of_read_slot {R : Rect b.ty.shape} {v : R.shape.Idx → Elt F b.ty.elt} {f : b.ty.Contents (Elt F)} {S : Shape} (hS : S.numel = R.shape.numel)
    (h : (((View.whole b : View sig .tc _ _ _).slice R).reshape S hS).read (Elt F) f = fun x => v (Shape.reshapeEquiv hS x)) : on R v f := fun j => by
  obtain ⟨x, rfl⟩ := (Shape.reshapeEquiv hS).surjective j; exact congrFun h x

theorem set_slot (R : Rect b.ty.shape) {S : Shape} (hS : S.numel = R.shape.numel) :
    (((View.whole b : View sig .tc _ _ _).slice R).reshape S hS).set = R.set := by
  rw [View.set_reshape]; exact View.set_slice_whole b R

end On

/-! ## The rectangles of the kernel -/

theorem val_sub (q : Fin 2) : ((1 - q : Fin 2) : Nat) = 1 - q.val := by revert q; decide
theorem f2 (r : Fin 2) : r.val = 0 ∨ r.val = 1 := by have := r.isLt; omega

theorem oA_inb (r : Fin 2) : ∀ a, oA r a + S768x768.size a ≤ S1536x768.size a := by revert r; decide
theorem oB_inb (s : Fin 4) : ∀ a, (![0, s.val * 384] : Fin 2 → Nat) a + S768x384.size a ≤ S768x1536.size a := by revert s; decide
theorem oH_inb (r : Fin 2) (s : Fin 4) : ∀ a, oH r s a + S768x384.size a ≤ S1536x1536.size a := by revert r s; decide
theorem oQ_inb (r q : Fin 2) (s : Fin 4) : ∀ a, oQ r q s a + S384x384.size a ≤ S1536x1536.size a := by revert r q s; decide
theorem oStrip_inb (s : Fin 4) : ∀ a, (![0, s.val * 384] : Fin 2 → Nat) a + (![1536, 384] : Fin 2 → Nat) a ≤ S1536x1536.size a := by revert s; decide
theorem oS_inb (s : Fin 4) : ∀ a, (![s.val, 0, 0] : Fin 3 → Nat) a + S1x768x384.size a ≤ S4x768x384.size a := by revert s; decide
theorem oT_inb (s : Fin 4) : ∀ a, (![s.val, 0, 0] : Fin 3 → Nat) a + S1x384x384.size a ≤ S4x384x384.size a := by revert s; decide
theorem oSq_inb (s : Fin 4) (q : Fin 2) : ∀ a, oS s q a + S1x384x384.size a ≤ S4x768x384.size a := by revert s q; decide
theorem oHq_inb (q : Fin 2) : ∀ a, (![q.val * 384, 0] : Fin 2 → Nat) a + S384x384.size a ≤ S768x384.size a := by revert q; decide
theorem oHs_inb (q : Fin 2) : ∀ a, (![0, q.val * 384, 0] : Fin 3 → Nat) a + S1x384x384.size a ≤ S1x768x384.size a := by revert q; decide

/-- Half `r` of the left operand's rows. -/
abbrev rA (r : Fin 2) : Rect S1536x768 := Rect.unit (s := S1536x768) (oA r) S768x768.size (oA_inb r)
/-- Stream `s` of the right operand's columns. -/
abbrev rB (s : Fin 4) : Rect S768x1536 := Rect.unit (s := S768x1536) ![0, s.val * 384] S768x384.size (oB_inb s)
/-- Half `r` of stream `s` of the result. -/
abbrev rH (r : Fin 2) (s : Fin 4) : Rect S1536x1536 := Rect.unit (s := S1536x1536) (oH r s) S768x384.size (oH_inb r s)
/-- Quarter `q` of half `r` of stream `s` of the result. -/
abbrev rQ (r q : Fin 2) (s : Fin 4) : Rect S1536x1536 := Rect.unit (s := S1536x1536) (oQ r q s) S384x384.size (oQ_inb r q s)
/-- Stream `s` of the result. -/
abbrev rStrip (s : Fin 4) : Rect S1536x1536 := Rect.unit (s := S1536x1536) ![0, s.val * 384] ![1536, 384] (oStrip_inb s)
/-- Slot `s` of a buffer of four halves. -/
abbrev rS (s : Fin 4) : Rect S4x768x384 := Rect.unit (s := S4x768x384) ![s.val, 0, 0] S1x768x384.size (oS_inb s)
/-- Slot `s` of a buffer of four quarters. -/
abbrev rT (s : Fin 4) : Rect S4x384x384 := Rect.unit (s := S4x384x384) ![s.val, 0, 0] S1x384x384.size (oT_inb s)
/-- Quarter `q` of slot `s` of a buffer of four halves. -/
abbrev rSq (s : Fin 4) (q : Fin 2) : Rect S4x768x384 := Rect.unit (s := S4x768x384) (oS s q) S1x384x384.size (oSq_inb s q)
/-- Quarter `q` of a half. -/
abbrev iQ (q : Fin 2) : Rect S768x384 := Rect.unit (s := S768x384) ![q.val * 384, 0] S384x384.size (oHq_inb q)
/-- Quarter `q` of a half held as a slot. -/
abbrev iSq (q : Fin 2) : Rect S1x768x384 := Rect.unit (s := S1x768x384) ![0, q.val * 384, 0] S1x384x384.size (oHs_inb q)

theorem rQ_in_rH (r q : Fin 2) (s : Fin 4) (j : S384x384.Idx) : (rQ r q s).emb j = (rH r s).emb ((iQ q).emb j) :=
  on_sub (α := Unit) (fun a => by fin_cases a <;> simp) j
theorem rSq_in_rS (s : Fin 4) (q : Fin 2) (j : S1x384x384.Idx) : (rSq s q).emb j = (rS s).emb ((iSq q).emb j) :=
  on_sub (α := Unit) (fun a => by fin_cases a <;> simp) j

theorem rH_disj {r r' : Fin 2} (s : Fin 4) (h : r ≠ r') : Disjoint (rH r s).set (rH r' s).set :=
  Rect.unit_disjoint 0 (by revert r r' s; decide)
theorem rQ_disj {r q q' : Fin 2} (s : Fin 4) (h : q ≠ q') : Disjoint (rQ r q s).set (rQ r q' s).set :=
  Rect.unit_disjoint 0 (by revert r q q' s; decide)
theorem rQ_rH_disj {r r' q : Fin 2} (s : Fin 4) (h : r ≠ r') : Disjoint (rQ r q s).set (rH r' s).set :=
  Rect.unit_disjoint 0 (by revert r r' q s; decide)
theorem rH_rQ_disj {r r' q : Fin 2} (s : Fin 4) (h : r ≠ r') : Disjoint (rH r s).set (rQ r' q s).set := (rQ_rH_disj s h.symm).symm
theorem rStrip_disj {s s' : Fin 4} (h : s ≠ s') : Disjoint (rStrip s).set (rStrip s').set :=
  Rect.unit_disjoint 1 (by revert s s'; decide)
theorem rS_disj {s s' : Fin 4} (h : s ≠ s') : Disjoint (rS s).set (rS s').set := Rect.unit_disjoint 0 (by revert s s'; decide)
theorem rT_disj {s s' : Fin 4} (h : s ≠ s') : Disjoint (rT s).set (rT s').set := Rect.unit_disjoint 0 (by revert s s'; decide)
theorem rSq_disj {q q' : Fin 2} (s : Fin 4) (h : q ≠ q') : Disjoint (rSq s q).set (rSq s q').set := Rect.unit_disjoint 1 (by revert q q' s; decide)

theorem rH_sub (r : Fin 2) (s : Fin 4) : (rH r s).set ⊆ (rStrip s).set :=
  Rect.set_subset_of_span _ _ (fun _ => rfl) (by revert r s; decide)
theorem rQ_sub (r q : Fin 2) (s : Fin 4) : (rQ r q s).set ⊆ (rStrip s).set :=
  Rect.set_subset_of_span _ _ (fun _ => rfl) (by revert r q s; decide)
theorem rSq_sub (s : Fin 4) (q : Fin 2) : (rSq s q).set ⊆ (rS s).set :=
  Rect.set_subset_of_span _ _ (fun _ => rfl) (by revert s q; decide)

theorem mem_rS {s : Fin 4} {i : S4x768x384.Idx} : i ∈ (rS s).set ↔ (i 0 : Nat) = s := by
  rw [Rect.mem_set_unit]
  constructor
  · intro h; have := h 0; simp at this; omega
  · intro h a; fin_cases a
    · simp; omega
    · have := (i 1).isLt; simp at this ⊢; omega
    · have := (i 2).isLt; simp at this ⊢; omega
theorem mem_rT {s : Fin 4} {i : S4x384x384.Idx} : i ∈ (rT s).set ↔ (i 0 : Nat) = s := by
  rw [Rect.mem_set_unit]
  constructor
  · intro h; have := h 0; simp at this; omega
  · intro h a; fin_cases a
    · simp; omega
    · have := (i 1).isLt; simp at this ⊢; omega
    · have := (i 2).isLt; simp at this ⊢; omega
theorem mem_rStrip {s : Fin 4} {i : S1536x1536.Idx} : i ∈ (rStrip s).set ↔ (i 1 : Nat) / 384 = s := by
  rw [Rect.mem_set_unit]
  constructor
  · intro h; have := h 1; simp at this; omega
  · intro h a; fin_cases a
    · have := (i 0).isLt; simp at this ⊢; omega
    · simp; omega

/-- The slots make up the buffer. -/
theorem rS_cover : (Finset.univ : Finset (Fin 4)).biUnion (fun s => (rS s).set) = Finset.univ :=
  Finset.eq_univ_of_forall fun i => Finset.mem_biUnion.mpr ⟨i 0, Finset.mem_univ _, mem_rS.mpr rfl⟩
theorem rT_cover : (Finset.univ : Finset (Fin 4)).biUnion (fun s => (rT s).set) = Finset.univ :=
  Finset.eq_univ_of_forall fun i => Finset.mem_biUnion.mpr ⟨i 0, Finset.mem_univ _, mem_rT.mpr rfl⟩
theorem rStrip_cover : (Finset.univ : Finset (Fin 4)).biUnion (fun s => (rStrip s).set) = Finset.univ :=
  Finset.eq_univ_of_forall fun i => Finset.mem_biUnion.mpr
    ⟨⟨(i 1 : Nat) / 384, by have := (i 1).isLt; simp at this; omega⟩, Finset.mem_univ _, mem_rStrip.mpr rfl⟩

/-- The two quarters of a slot make up the slot. -/
theorem rSq_cover (s : Fin 4) (q : Fin 2) : (rSq s q).set ∪ (rSq s (1 - q)).set = (rS s).set := by
  refine Finset.Subset.antisymm (Finset.union_subset (rSq_sub s q) (rSq_sub s (1 - q))) fun i hi => ?_
  rw [Finset.mem_union, Rect.mem_set_unit, Rect.mem_set_unit]
  have h0 := mem_rS.mp hi
  have h1 := (i 1).isLt; have h2 := (i 2).isLt
  simp at h1 h2
  by_cases hq : (i 1 : Nat) / 384 = q
  · left; intro a; fin_cases a <;> simp <;> omega
  · right
    have hq1 : ((1 - q : Fin 2) : Nat) = 1 - q.val := val_sub q
    have := f2 q
    intro a; fin_cases a <;> simp [hq1] <;> omega

end Cert.KernelIdeal.Sq

end
-- ==== Proof.Contents.lean ====
/-
# What every buffer holds, and who hands it over when

The values a device computes and puts on the wire, as functions of the two blocks it starts from, written with the
kernel's own payload functions; and the resources each semaphore carries: the barrier hands a device its partners'
landing places, a receive semaphore the place landed in with the partner's values, a send semaphore the source.
-/
module

public import proofs.«01_k».proof.Proof.Regions

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state beside that of the exchange, whose rounds have at most two contributions. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Values -/

/-- Device `c`'s block of the left operand, as staged. -/
def xA (c : Dev nD) : (cc0_stg0_0 : Ref sig .tc).ty.Contents (Elt F) :=
  (win0_0.blk (0 : Fin 1)).view.read (Elt F) ((s₀ m ρ).mem ((c : Thread nD τ).loc main_arg0))
/-- Device `c`'s block of the right operand, as staged. -/
def xB (c : Dev nD) : (cc0_stg1_0 : Ref sig .tc).ty.Contents (Elt F) :=
  (win0_1.blk (0 : Fin 1)).view.read (Elt F) ((s₀ m ρ).mem ((c : Thread nD τ).loc main_arg1))

/-- The operands rounded for the matrix unit. -/
def qA (c : Dev nD) : FVec F S1536x768 .bf16 := k0_pay2 (xA m ρ c)
def qB (c : Dev nD) : FVec F S768x1536 .bf16 := k0_pay3 (xB m ρ c)
/-- Half `r` of the rows of the left operand; stream `s` of the columns of the right one. -/
def hA (c : Dev nD) (r : Fin 2) : Vec F S768x768 .bf16 := fun j => qA m ρ c ((rA r).emb j)
def hB (c : Dev nD) (s : Fin 4) : Vec F S768x384 .bf16 := fun j => qB m ρ c ((rB s).emb j)

/-- Device `c`'s own product on the half it keeps. -/
def own (c : Dev nD) (s : Fin 4) : FVec F S768x384 .f32 := k0_pay10 (hA m ρ c (half c s)) (hB m ρ c s)
/-- Device `c`'s product on the half it gives away, as sent. -/
def v1 (c : Dev nD) (s : Fin 4) : FVec F S1x768x384 .bf16 := k0_pay4 (hA m ρ c (1 - half c s)) (hB m ρ c s)
/-- Quarter `q` of the half kept: the own product, and what the first partner sent for it. -/
def ownQ (c : Dev nD) (s : Fin 4) (q : Fin 2) : Vec F S384x384 .f32 := fun j => own m ρ c s ((iQ q).emb j)
def v1Q (c : Dev nD) (s : Fin 4) (q : Fin 2) : Vec F S1x384x384 .bf16 := fun j => v1 m ρ c s ((iSq q).emb j)
/-- Quarter `q` summed over the device and its first partner. -/
def acc (c : Dev nD) (s : Fin 4) (q : Fin 2) : FVec F S384x384 .f32 := k0_pay15 (ownQ m ρ c s q) (v1Q m ρ (pa c s) s q)
/-- The quarter given away, as sent. -/
def v2 (c : Dev nD) (s : Fin 4) : FVec F S1x384x384 .bf16 :=
  k0_pay16 (ownQ m ρ c s (1 - quar c s)) (v1Q m ρ (pa c s) s (1 - quar c s))
/-- The quarter finished: summed over all four devices and put through the activation; and the same as sent. -/
def fin (c : Dev nD) (s : Fin 4) : FVec F S384x384 .f32 := k0_pay22 (acc m ρ c s (quar c s)) (v2 m ρ (pb c s) s)
def v3 (c : Dev nD) (s : Fin 4) : FVec F S1x384x384 .bf16 := k0_pay23 (acc m ρ c s (quar c s)) (v2 m ρ (pb c s) s)
/-- The place, inside its quarter, of an element of a half. -/
def inQ (i : S1x768x384.Idx) : S1x384x384.Idx
  | 0 => ⟨0, by decide⟩
  | 1 => ⟨(i 1 : Nat) % 384, Nat.mod_lt _ (by decide)⟩
  | 2 => ⟨(i 2 : Nat), (i 2).isLt⟩
/-- The half assembled from the quarter finished here and the second partner's. -/
def v4 (c : Dev nD) (s : Fin 4) : FVec F S1x768x384 .bf16 := fun i =>
  if (i 1 : Nat) / 384 = (quar c s).val then v3 m ρ c s (inQ i) else v3 m ρ (pb c s) s (inQ i)

/-! ## Holding a rectangle of a buffer -/

/-- Device `c` holds the share `q` of the rectangle `R` of buffer `b`, which reads `v`. -/
def holds (c : Dev nD) (b : Ref sig .tc) (R : Rect b.ty.shape) (q : PosShare TreeShare) (v : R.shape.Idx → Elt F b.ty.elt) : sProp 𝕄 :=
  iprop(∃ f : Buf (Elt F) ((c : Thread nD τ).loc b), ⌜on R v f⌝ ∗ ((c : Thread nD τ).loc b ↦[R.set]{q} f))
/-- The rectangle `R` of buffer `b` of device `c`, whatever it reads. -/
def free (c : Dev nD) (b : Ref sig .tc) (R : Rect b.ty.shape) : sProp 𝕄 :=
  iprop(∃ f : Buf (Elt F) ((c : Thread nD τ).loc b), ((c : Thread nD τ).loc b ↦[R.set]{fullShare} f))

omit [FloatOps F] in
instance holds_storable (c : Dev nD) (b : Ref sig .tc) (R : Rect b.ty.shape) (q) (v) :
    BI.Storable (upEmb : UEmb _ 𝕄) (holds (F := F) c b R q v) := by unfold holds; infer_instance
omit [FloatOps F] in
instance free_storable (c : Dev nD) (b : Ref sig .tc) (R : Rect b.ty.shape) :
    BI.Storable (upEmb : UEmb _ 𝕄) (free (F := F) c b R) := by unfold free; infer_instance

omit [FloatOps F] in
theorem holds_free (c : Dev nD) (b : Ref sig .tc) (R : Rect b.ty.shape) (v) : holds (F := F) c b R fullShare v ⊢ free c b R := by
  unfold holds free
  iintro ⟨%f, -, H⟩; iexists f; iexact H

/-! ## What the semaphores carry -/

/-- What partner `d` of device `x` hands it at the barrier, for stream `s`: the places `x` will write on that partner. -/
def landing (x : Dev nD) (s : Fin 4) (d : Bool) : sProp 𝕄 :=
  if odd s = d then iprop(free (partner x d) cc0_scratch3 (rS s) ∗ free (partner x d) cc0_scratch7 (rS s))
  else iprop(free (partner x d) cc0_scratch5 (rT s) ∗ free (partner x d) cc0_scratch6 (rSq s (quar x s)))
def barPay (x : Dev nD) (d : Bool) : sProp 𝕄 := bigSep Finset.univ fun s : Fin 4 => landing (F := F) x s d

/-- What the landing of exchange `ph` of stream `s` gives device `c`. -/
def recvPay (c : Dev nD) (s ph : Fin 4) : sProp 𝕄 :=
  match ph with
  | 0 => holds c cc0_scratch3 (rS s) fullShare (v1 m ρ (pa c s) s)
  | 1 => holds c cc0_scratch5 (rT s) fullShare (v2 m ρ (pb c s) s)
  | 2 => holds c cc0_scratch6 (rSq s (1 - quar c s)) fullShare (v3 m ρ (pb c s) s)
  | 3 => holds c cc0_scratch7 (rS s) fullShare (v4 m ρ (pa c s) s)
/-- What device `c` gets back once its own copy of exchange `ph` of stream `s` has left. -/
def sendPay (c : Dev nD) (s ph : Fin 4) : sProp 𝕄 :=
  match ph with
  | 0 => free c cc0_scratch2 (rS s)
  | 1 => free c cc0_scratch4 (rT s)
  | 2 => holds c cc0_scratch6 (rSq s (quar c s)) fullShare (v3 m ρ c s)
  | 3 => holds c cc0_scratch6 (rS s) fullShare.left (v4 m ρ c s)

instance landing_storable (x : Dev nD) (s : Fin 4) (d : Bool) : BI.Storable (upEmb : UEmb _ 𝕄) (landing (F := F) x s d) := by
  unfold landing; split <;> infer_instance
instance barPay_storable (x : Dev nD) (d : Bool) : BI.Storable (upEmb : UEmb _ 𝕄) (barPay (F := F) x d) := by
  unfold barPay; infer_instance
instance recvPay_storable (c : Dev nD) (s ph : Fin 4) : BI.Storable (upEmb : UEmb _ 𝕄) (recvPay m ρ c s ph) := by
  unfold recvPay; split <;> infer_instance
instance sendPay_storable (c : Dev nD) (s ph : Fin 4) : BI.Storable (upEmb : UEmb _ 𝕄) (sendPay m ρ c s ph) := by
  unfold sendPay; split <;> infer_instance

/-- What the semaphores count for one transfer of exchange `ph`. -/
def amt (ph : Fin 4) : ℕ :=
  match ph with
  | 0 => (((View.whole cc0_scratch3 : View sig .tc _ _ _).slice (rS 0)).reshape S768x384 rfl).dmaCredit
  | 1 => (((View.whole cc0_scratch5 : View sig .tc _ _ _).slice (rT 0)).reshape S384x384 rfl).dmaCredit
  | 2 => (((View.whole cc0_scratch6 : View sig .tc _ _ _).slice (rSq 0 0)).reshape S384x384 rfl).dmaCredit
  | 3 => (((View.whole cc0_scratch7 : View sig .tc _ _ _).slice (rS 0)).reshape S768x384 rfl).dmaCredit
theorem amt_pos (ph : Fin 4) : 0 < amt ph := by
  unfold amt; split <;> exact View.dmaCredit_pos _ (by decide)

end Cert.KernelIdeal.Sq

end
-- ==== Proof.Protocol.lean ====
/-
# The exchange as rounds of semaphores

Thirty-three cells a device: the barrier, and for every stream and exchange a send and a receive semaphore. Each is
waited on once. The barrier takes one signal from each partner; every other cell takes one transfer. A device's sends
are numbered in program order, and what it still owes is the tail of that list, so a wait is safe when every send left
is of a later exchange.
-/
module

public import proofs.«01_k».proof.Proof.Contents

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A transfer's semaphore: the send side (`false`) or the receive side, of a stream and an exchange. -/
abbrev Xf : Type := Bool × Fin 4 × Fin 4

def xsem (x : Xf) : DmaSem sig := ⟨(bif x.1 then 19 else 3) + 4 * x.2.1.val + x.2.2.val, by revert x; decide⟩
def osem (x : Xf) : SemLoc sig := .dma (xsem x)

/-- Reading a semaphore's number back. -/
def dec : SemLoc sig → Option Xf
  | .reg _ => none
  | .dma k => if k.val < 3 then none else
      some (decide (19 ≤ k.val), ⟨(k.val - 3) % 16 / 4, by omega⟩, ⟨(k.val - 3) % 4, Nat.mod_lt _ (by decide)⟩)

theorem dec_osem (x : Xf) : dec (osem x) = some x := by revert x; decide
theorem osem_injective : Function.Injective osem := fun x y h => by
  have := congrArg dec h; rw [dec_osem, dec_osem] at this; exact Option.some.inj this

abbrev barSem : SemLoc sig := .reg barrier0
/-- The cells of one device: its barrier and its transfers. -/
def ksem : Option Xf → SemLoc sig
  | none => barSem
  | some x => osem x
theorem ksem_injective : Function.Injective ksem := by
  rintro (_ | x) (_ | y) h
  · rfl
  · cases h
  · cases h
  · exact congrArg some (osem_injective h)
def kcell (ck : Dev nD × Option Xf) : GSem nD τ sig := ((ck.1 : Thread nD τ), ksem ck.2)
theorem kcell_injective : Function.Injective kcell := by
  rintro ⟨c, k⟩ ⟨c', k'⟩ h
  have h1 : c = c' := congrArg (fun g : GSem nD τ sig => g.1.1) h
  have h2 : k = k' := ksem_injective (congrArg Prod.snd h)
  rw [h1, h2]

abbrev barCell (c : Dev nD) : GSem nD τ sig := ((c : Thread nD τ), barSem)
abbrev sendCell (c : Dev nD) (s ph : Fin 4) : GSem nD τ sig := ((c : Thread nD τ), .dma (xsem (false, s, ph)))
abbrev recvCell (c : Dev nD) (s ph : Fin 4) : GSem nD τ sig := ((c : Thread nD τ), .dma (xsem (true, s, ph)))

/-! ## The schedule -/

def rd : Rounds.Schedule (GSem nD τ sig) Bool 𝕄 where
  duties g r := if r = 0 then (match g.2 with | .reg _ => Finset.univ | .dma _ => {false}) else ∅
  unitless _ := False
  amount g _ _ := match dec g.2 with | some x => amt x.2.2 | none => 1
  payload g _ d := match dec g.2 with
    | some (true, s, ph) => recvPay m ρ g.1.1 s ph
    | some (false, s, ph) => sendPay m ρ g.1.1 s ph
    | none => barPay g.1.1 d
  amount_pos g _ _ _ := by
    split
    · exact amt_pos _
    · exact Nat.one_pos

instance rd_payload_storable (g : GSem nD τ sig) (r : ℕ) (d : Bool) :
    BI.Storable (upEmb : UEmb _ 𝕄) ((rd (F := F) m ρ).payload g r d) := by
  unfold rd; dsimp only; split <;> infer_instance

section Tables
variable (c : Dev nD) (s ph : Fin 4)

theorem dec_send : dec (.dma (xsem (false, s, ph)) : SemLoc sig) = some (false, s, ph) := dec_osem _
theorem dec_recv : dec (.dma (xsem (true, s, ph)) : SemLoc sig) = some (true, s, ph) := dec_osem _

theorem duties_bar : (rd (F := F) m ρ).duties (barCell c) 0 = Finset.univ := rfl
theorem duties_send : (rd (F := F) m ρ).duties (sendCell c s ph) 0 = {false} := rfl
theorem duties_recv : (rd (F := F) m ρ).duties (recvCell c s ph) 0 = {false} := rfl
theorem duties_later (g : GSem nD τ sig) : ∀ r, 1 ≤ r → (rd (F := F) m ρ).duties g r = ∅ :=
  fun r hr => by dsimp only [rd]; exact if_neg fun h => by omega

theorem amount_bar (d : Bool) : (rd (F := F) m ρ).amount (barCell c) 0 d = 1 := rfl
theorem amount_send (d : Bool) : (rd (F := F) m ρ).amount (sendCell c s ph) 0 d = amt ph := by dsimp only [rd]; rw [dec_send]
theorem amount_recv (d : Bool) : (rd (F := F) m ρ).amount (recvCell c s ph) 0 d = amt ph := by dsimp only [rd]; rw [dec_recv]

theorem expect_bar : (rd (F := F) m ρ).expect (barCell c) 0 = 2 := by
  unfold Schedule.expect Schedule.amountOf; rw [duties_bar]; rfl
theorem expect_send : (rd (F := F) m ρ).expect (sendCell c s ph) 0 = amt ph := by
  unfold Schedule.expect Schedule.amountOf; rw [duties_send, Finset.sum_singleton, amount_send]
theorem expect_recv : (rd (F := F) m ρ).expect (recvCell c s ph) 0 = amt ph := by
  unfold Schedule.expect Schedule.amountOf; rw [duties_recv, Finset.sum_singleton, amount_recv]

theorem payload_bar (d : Bool) : (rd (F := F) m ρ).payload (barCell c) 0 d = barPay c d := rfl
theorem payload_send (d : Bool) : (rd (F := F) m ρ).payload (sendCell c s ph) 0 d = sendPay m ρ c s ph := by
  dsimp only [rd]; rw [dec_send]
theorem payload_recv (d : Bool) : (rd (F := F) m ρ).payload (recvCell c s ph) 0 d = recvPay m ρ c s ph := by
  dsimp only [rd]; rw [dec_recv]

theorem rest_bar : bigSep ((rd (F := F) m ρ).duties (barCell c) 0 \ ∅) (fun d => (rd (F := F) m ρ).payload (barCell c) 0 d)
    = bigSep (Finset.univ : Finset Bool) fun d => barPay (F := F) c d := by
  rw [Finset.sdiff_empty, duties_bar]; rfl
theorem rest_send : bigSep ((rd (F := F) m ρ).duties (sendCell c s ph) 0 \ ∅) (fun d => (rd (F := F) m ρ).payload (sendCell c s ph) 0 d)
    = sendPay m ρ c s ph := by
  rw [Finset.sdiff_empty, duties_send, bigSep_singleton, payload_send]
theorem rest_recv : bigSep ((rd (F := F) m ρ).duties (recvCell c s ph) 0 \ ∅) (fun d => (rd (F := F) m ρ).payload (recvCell c s ph) 0 d)
    = recvPay m ρ c s ph := by
  rw [Finset.sdiff_empty, duties_recv, bigSep_singleton, payload_recv]

end Tables

/-! ## What a device still owes -/

/-- The stream and the exchange of the `i`-th send. -/
def iS (i : ℕ) : Fin 4 := ⟨i % 4, Nat.mod_lt _ (by decide)⟩
def iP (i : ℕ) : Fin 4 := ⟨i / 4 % 4, Nat.mod_lt _ (by decide)⟩
theorem iS_eq (s ph : Fin 4) : iS (4 * ph.val + s.val) = s := by revert s ph; decide
theorem iP_eq (s ph : Fin 4) : iP (4 * ph.val + s.val) = ph := by revert s ph; decide

/-- The credit the `i`-th send pays its target. -/
def owe1 (c : Dev nD) (i : ℕ) : CellTallies nD τ sig Unit :=
  tallyAt (recvCell (peer c (iS i) (iP i)) (iS i) (iP i)) () (amt (iP i))
/-- What is owed once the first `n` sends are done. -/
def owedFrom (c : Dev nD) (n : ℕ) : CellTallies nD τ sig Unit := ∑ i ∈ Finset.Ico n 16, owe1 c i

theorem owedFrom_step (c : Dev nD) (n : ℕ) (h : n < 16) : owedFrom c n = owedFrom c (n + 1) + owe1 c n := by
  have hs : Finset.Ico n 16 = insert n (Finset.Ico (n + 1) 16) := by
    ext i; rw [Finset.mem_insert, Finset.mem_Ico, Finset.mem_Ico]; omega
  unfold owedFrom; rw [hs, Finset.sum_insert (by rw [Finset.mem_Ico]; omega), add_comm]
theorem owedFrom_end (c : Dev nD) : owedFrom c 16 = 0 := by unfold owedFrom; rw [Finset.Ico_self, Finset.sum_empty]

/-- At launch: every send's credit, and one signal to each partner's barrier. -/
def O₀ (c : Dev nD) : CellTallies nD τ sig Unit :=
  owedFrom c 0 + tallyAt (barCell (partner c true)) () 1 + tallyAt (barCell (partner c false)) () 1

def L (g : GSem nD τ sig) : Finset Unit := if g.1.2 = .tc then {()} else ∅
/-- The barrier comes before every landing, and the landings in the order of the exchanges. -/
def lv (g : GSem nD τ sig) (_ : Unit) : ℕ := match dec g.2 with
  | some (true, _, ph) => ph.val + 2
  | some (false, _, _) => 0
  | none => if g.2 = barSem then 1 else 0
theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s ph : Fin 4) : lv (recvCell c s ph) () = ph.val + 2 := by unfold lv; dsimp only; rw [dec_recv]
theorem lv_send (c : Dev nD) (s ph : Fin 4) : lv (sendCell c s ph) () = 0 := by unfold lv; dsimp only; rw [dec_send]
theorem lv_bar (c : Dev nD) : lv (barCell c) () = 1 := rfl

theorem tallyAt_pos {g g' : GSem nD τ sig} {k : ℕ} {u : Unit} (h : 0 < tallyAt g () k g' u) : g' = g := by
  rw [tallyAt_apply] at h
  by_contra hn
  rw [if_neg fun h' => hn h'.1] at h
  exact Nat.lt_irrefl 0 h

theorem owedFrom_pos {c : Dev nD} {n : ℕ} {g : GSem nD τ sig} {u : Unit} (h : 0 < owedFrom c n g u) :
    ∃ i, n ≤ i ∧ i < 16 ∧ g = recvCell (peer c (iS i) (iP i)) (iS i) (iP i) := by
  unfold owedFrom at h
  rw [Finset.sum_apply, Finsupp.finset_sum_apply] at h
  obtain ⟨i, hi, hpos⟩ := Finset.exists_ne_zero_of_sum_ne_zero (Nat.pos_iff_ne_zero.mp h)
  rw [Finset.mem_Ico] at hi
  exact ⟨i, hi.1, hi.2, tallyAt_pos (Nat.pos_of_ne_zero hpos)⟩

theorem O₀_pos {c : Dev nD} {g : GSem nD τ sig} {u : Unit} (h : 0 < O₀ c g u) :
    (∃ d s ph, g = recvCell d s ph) ∨ ∃ d, g = barCell d := by
  unfold O₀ at h
  rw [Pi.add_apply, Finsupp.add_apply, Pi.add_apply, Finsupp.add_apply] at h
  by_cases h1 : 0 < owedFrom c 0 g u
  · obtain ⟨i, -, -, rfl⟩ := owedFrom_pos h1; exact .inl ⟨_, _, _, rfl⟩
  by_cases h2 : 0 < tallyAt (barCell (partner c true)) () 1 g u
  · exact .inr ⟨_, tallyAt_pos h2⟩
  · exact .inr ⟨partner c false, tallyAt_pos (k := 1) (u := u) (by omega)⟩

omit [FloatOps F] in
/-- A wait on a cell of level at most `k` is safe while every send left is of an exchange at `k - 1` or later. -/
theorem mayWait_owed (c : Dev nD) (sm : SemLoc sig) (n k : ℕ) (hk : lv ((c : Thread nD τ), sm) () ≤ k) (hn : 4 * k ≤ n + 4) :
    (levAts L lv : sProp 𝕄) ⊢ MayWait (c : Thread nD τ) sm () (owedFrom c n) :=
  MayOwe.of_cut (L := L) (lev := lv) k (fun p hp => by rw [Finset.mem_singleton.mp hp, L_tc]; exact Finset.mem_singleton_self _)
    (fun g u hg => by obtain ⟨i, _, _, rfl⟩ := owedFrom_pos hg; rw [L_tc]; exact Finset.mem_singleton_self _)
    (fun p hp => by rw [Finset.mem_singleton.mp hp]; exact hk)
    (fun g u hg => by
      obtain ⟨i, h1, h2, rfl⟩ := owedFrom_pos hg
      rw [lv_recv]; show k < i / 4 % 4 + 2; omega)

omit [FloatOps F] in
/-- A staging semaphore is waited on below everything. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, ph, rfl⟩ | ⟨d, rfl⟩ <;> (rw [L_tc]; exact Finset.mem_singleton_self _))
      (fun p hp => by
        rw [Finset.mem_singleton.mp hp]; dsimp only [lv, dec]; rw [if_pos hq]
        exact le_of_eq (if_neg fun h => by cases h))
      (fun g u hg => by
        rcases O₀_pos hg with ⟨d, s, ph, rfl⟩ | ⟨d, rfl⟩
        · rw [lv_recv]; omega
        · rw [lv_bar]; decide)
  · rw [MayWait_zero]; iintro -; iempintro

/-! ## The ghost state of a stream -/

abbrev 𝒱₀ : Variants := Variants.none

/-- The invariants of all cells, that all have reached their first round, and the levels. -/
def records (K : Dev nD × Option Xf → ℕ) : sProp 𝕄 :=
  iprop((bigSep Finset.univ fun ck => cellInv ER (rd m ρ) (K ck) (kcell ck))
    ∗ (bigSep Finset.univ fun ck => reached ER (kcell ck) 0) ∗ levAts L lv)
instance records_persistent (K : Dev nD × Option Xf → ℕ) : BI.Persistent (records m ρ K) := by unfold records; infer_instance

theorem records_inv (K : Dev nD × Option Xf → ℕ) (ck : Dev nD × Option Xf) :
    records m ρ K ⊢ cellInv ER (rd m ρ) (K ck) (kcell ck) := by
  unfold records
  have h : (bigSep Finset.univ fun ck => (cellInv ER (rd m ρ) (K ck) (kcell ck) : sProp 𝕄)) ⊢ cellInv ER (rd m ρ) (K ck) (kcell ck) :=
    bigSep_elim (Finset.mem_univ ck)
  iintro ⟨H, -, -⟩; iapply h; iexact H
theorem records_reached (K : Dev nD × Option Xf → ℕ) (ck : Dev nD × Option Xf) :
    records m ρ K ⊢ reached ER (kcell ck) 0 := by
  unfold records
  have h : (bigSep Finset.univ fun ck => (reached ER (kcell ck) 0 : sProp 𝕄)) ⊢ reached ER (kcell ck) 0 :=
    bigSep_elim (Finset.mem_univ ck)
  iintro ⟨-, H, -⟩; iapply h; iexact H
theorem records_lev (K : Dev nD × Option Xf → ℕ) : records m ρ K ⊢ levAts L lv := by
  unfold records
  iintro ⟨-, -, H⟩; iexact H

/-- What the device owes after its first `n` sends, whatever it has waited on. -/
def duty (c : Dev nD) (n : ℕ) : sProp 𝕄 := iprop(∃ W : Waits sig Unit, owes (c : Thread nD τ) (owedFrom c n) W)

/-- An exchange not begun: its two positions, the rights to send it and to land it, and the credit for the landing due. -/
def tick (c : Dev nD) (s ph : Fin 4) : sProp 𝕄 :=
  iprop(atPos ER (sendCell c s ph) 0 ∅ 0 ∗ atPos ER (recvCell c s ph) 0 ∅ 0
    ∗ dutyTok ER (sendCell c s ph) 0 false ∗ dutyTok ER (recvCell (peer c s ph) s ph) 0 false ∗ cred (tallyAt (recvCell c s ph) () (amt ph)))
/-- An exchange in flight. -/
def sent (c : Dev nD) (s ph : Fin 4) : sProp 𝕄 :=
  iprop(atPos ER (sendCell c s ph) 0 ∅ 0 ∗ atPos ER (recvCell c s ph) 0 ∅ 0
    ∗ cred (tallyAt (sendCell c s ph) () (amt ph)) ∗ cred (tallyAt (recvCell c s ph) () (amt ph)))
/-- An exchange over: both its semaphores are back at zero. -/
def over (c : Dev nD) (s ph : Fin 4) : sProp 𝕄 := iprop(semVal (sendCell c s ph) 0 ∗ semVal (recvCell c s ph) 0)

variable (K : Dev nD × Option Xf → ℕ)

/-- Issuing exchange `ph` of stream `s`. -/
theorem wp_xfer (c : Dev nD) (s ph : Fin 4) (i : ℕ) (hi : i = 4 * ph.val + s.val) (n : Dev nD) (hn : n = peer c s ph)
    {sp sp' : Space} {S : Shape} {e : EltTy} {src : Memref sig .tc sp S e} {dst : Memref sig .tc sp' S e}
    {hsc : (dst : Memref sig (Dev.tc n : Thread nD τ).2.kind sp' S e).view.ref.isScScratch = false} {sS sR : DmaSem sig}
    (hS : sS = xsem (false, s, ph)) (hR : sR = xsem (true, s, ph)) (hN : dst.view.dmaCredit = amt ph)
    {hsrc : src.view.WordExact} {hdst : dst.view.WordExact}
    {hsem : DmaTarget.Typed sp (.dma sR) (.remote (Dev.tc n : Thread nD τ) dst (.dma sS) hsc)}
    {q : PosShare TreeShare} {fs : Buf (Elt F) (src.view.loc (c : Thread nD τ))}
    {fd : Buf (Elt F) (dst.view.loc (peer c s ph : Thread nD τ))}
    (hpay₁ : (src.view.loc (c : Thread nD τ) ↦[src.view.set]{q} fs) ⊢ sendPay m ρ c s ph)
    (hpay₂ : (dst.view.loc (peer c s ph : Thread nD τ) ↦[dst.view.set]{fullShare} (dst.view.write (Elt F) fd (src.view.read (Elt F) fs) Finset.univ))
      ⊢ recvPay m ρ (peer c s ph) s ph)
    {α : Type} {Q : α → sProp 𝕄} {k : PUnit → Prog (TpuEff nD τ sig (Elt F) Λ₀ .tc) α} :
    iprop(records m ρ K ∗ (src.view.loc (c : Thread nD τ) ↦[src.view.set]{q} fs)
        ∗ (dst.view.loc (peer c s ph : Thread nD τ) ↦[dst.view.set]{fullShare} fd) ∗ duty c i ∗ tick c s ph)
      ⊢ iprop(((duty c (i + 1) ∗ sent c s ph) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR
  have hi16 : i < 16 := by have := s.isLt; have := ph.isLt; omega
  have ho : owedFrom c i = owedFrom c (i + 1) + tallyAt (recvCell (peer c s ph) s ph) () (amt ph) := by
    rw [owedFrom_step c i hi16]; unfold owe1; rw [hi, iS_eq, iP_eq]
  unfold duty tick sent
  iintro ⟨#Hr, Hsrc, Hdst, ⟨%W, HO⟩, Hp1, Hp2, Ht1, Ht2, Hc⟩ Hk
  ihave #I1 := (records_inv m ρ K (c, some (false, s, ph))) $$ Hr
  ihave #I2 := (records_inv m ρ K (peer c s ph, some (true, s, ph))) $$ Hr
  ihave #R1 := (records_reached m ρ K (c, some (false, s, ph))) $$ Hr
  ihave #R2 := (records_reached m ρ K (peer c s ph, some (true, s, ph))) $$ Hr
  iapply (Rounds.wp_send_pointsTo 𝒱₀ ER (rd m ρ) (c : Thread nD τ) none (κ₁ := K (c, some (false, s, ph))) (κ₂ := K (peer c s ph, some (true, s, ph)))
    (sS := .dma (xsem (false, s, ph))) (sem := .dma (xsem (true, s, ph))) (r₁ := 0) (r₂ := 0) (d₁ := false) (d₂ := false) (fd := fd)
    (by rw [duties_send]; exact Finset.mem_singleton_self _) (by rw [duties_recv]; exact Finset.mem_singleton_self _)
    () () (amt ph) hN (amount_send m ρ c s ph false) (amount_recv m ρ (peer c s ph) s ph false) (owedFrom c (i + 1)) ho (W := W)
    (by rw [payload_send]; exact hpay₁)
    (by rw [payload_recv]; exact hpay₂)) $$ [Hsrc Hdst HO Ht1 Ht2]
  · isplitr; · iexact I1
    isplitr; · iexact I2
    isplitl [Hsrc]; · iexact Hsrc
    isplitl [Hdst]; · iexact Hdst
    isplitl [HO]; · iexact HO
    isplitl [Ht1]; · iexact Ht1
    isplitr; · iexact R1
    isplitl [Ht2]; · iexact Ht2
    iexact R2
  iintro ⟨Hcs, HO⟩
  iapply Hk
  isplitl [HO]; · iexists W; iexact HO
  isplitl [Hp1]; · iexact Hp1
  isplitl [Hp2]; · iexact Hp2
  isplitl [Hcs] <;> iassumption

/-- Waiting for exchange `ph` of stream `s`: the source comes back, the landing arrives, both semaphores are done with. -/
theorem wp_waits (c : Dev nD) (s ph : Fin 4) (n : ℕ) (hn : 4 * ph.val + 4 ≤ n)
    {sp₁ sp₂ sp₃ sp₄ : Space} {S₁ S₂ S₃ S₄ : Shape} {e₁ e₂ e₃ e₄ : EltTy}
    {a₁ : Memref sig .tc sp₁ S₁ e₁} {a₂ : Memref sig .tc sp₂ S₂ e₂} {a₃ : Memref sig .tc sp₃ S₃ e₃} {a₄ : Memref sig .tc sp₄ S₄ e₄}
    {sS sR : DmaSem sig} (hS : sS = xsem (false, s, ph)) (hR : sR = xsem (true, s, ph))
    (hN : a₂.view.dmaCredit = amt ph) (hN' : a₄.view.dmaCredit = amt ph)
    {w₁ : a₁.view.WordExact} {w₂ : a₂.view.WordExact} {w₃ : a₃.view.WordExact} {w₄ : a₄.view.WordExact}
    {α : Type} {Q : α → sProp 𝕄} {k : PUnit → Prog (TpuEff nD τ sig (Elt F) Λ₀ .tc) α} :
    iprop(records m ρ K ∗ duty c n ∗ sent c s ph)
      ⊢ iprop(((duty c n ∗ over c s ph ∗ sendPay m ρ c s ph ∗ recvPay m ρ c s ph)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS a₁ a₂ w₁ w₂) fun _ => .op (.waitDma2 sR a₃ a₄ w₃ w₄) k) Q) := by
  subst hS hR
  unfold duty sent over
  iintro ⟨#Hr, ⟨%W, HO⟩, Hp1, Hp2, Hc1, Hc2⟩ Hk
  ihave #I1 := (records_inv m ρ K (c, some (false, s, ph))) $$ Hr
  ihave #I2 := (records_inv m ρ K (c, some (true, s, ph))) $$ Hr
  ihave #Hlev := (records_lev m ρ K) $$ Hr
  iapply (Rounds.wp_wait_rest_token 𝒱₀ ER (rd m ρ) (c : Thread nD τ) none (κ := K (c, some (false, s, ph)))
      (wpE_waitDma2_eq 𝒱₀ (c : Thread nD τ) none Set.univ) (Set.mem_univ _) () (O := owedFrom c n) (W := W) (R := 0) (m := 0) (T := ∅)
      (by rw [Nat.zero_add, expect_send, hN])) $$ [Hc1 HO Hp1]
  · isplitr; · iexact I1
    isplitl [Hc1]; · rw [hN]; iexact Hc1
    isplitl [HO]; · iexact HO
    isplitr; · iapply (mayWait_owed c _ n 0 (le_of_eq (lv_send c s ph)) (by omega)); iexact Hlev
    iexact Hp1
  iintro ⟨HO, Hp1, -, Hpay⟩
  ihave Hs := (Entails.of_eq (rest_send m ρ c s ph)) $$ Hpay
  iapply (Rounds.wp_wait_rest_token 𝒱₀ ER (rd m ρ) (c : Thread nD τ) none (κ := K (c, some (true, s, ph)))
      (wpE_waitDma2_eq 𝒱₀ (c : Thread nD τ) none Set.univ) (Set.mem_univ _) () (O := owedFrom c n) (R := 0) (m := 0) (T := ∅)
      (by rw [Nat.zero_add, expect_recv, hN'])) $$ [Hc2 HO Hp2]
  · isplitr; · iexact I2
    isplitl [Hc2]; · rw [hN']; iexact Hc2
    isplitl [HO]; · iexact HO
    isplitr; · iapply (mayWait_owed c _ n (ph.val + 2) (le_of_eq (lv_recv c s ph)) (by omega)); iexact Hlev
    iexact Hp2
  iintro ⟨HO, Hp2, -, Hpay⟩
  ihave Hv := (Entails.of_eq (rest_recv m ρ c s ph)) $$ Hpay
  imod (Rounds.cell_close ER (rd m ρ) (Set.mem_univ (K (c, some (false, s, ph)))) (fun h => h) (R := 0 + 1) (duties_later m ρ (sendCell c s ph))) $$ [Hp1] with Hz1
  · isplitr; · iexact I1
    iexact Hp1
  imod (Rounds.cell_close ER (rd m ρ) (Set.mem_univ (K (c, some (true, s, ph)))) (fun h => h) (R := 0 + 1) (duties_later m ρ (recvCell c s ph))) $$ [Hp2] with Hz2
  · isplitr; · iexact I2
    iexact Hp2
  iapply Hk
  isplitl [HO]; · iexists _; iexact HO
  isplitl [Hz1 Hz2]; · isplitl [Hz1] <;> iassumption
  isplitl [Hs] <;> iassumption

end Cert.KernelIdeal.Sq

end
-- ==== Proof.Steps.lean ====
/-
# Loads and stores of one device's buffers

The library's load and store rules restated over `on`: a load through `R` continues at what the buffer reads on `R`; a
store through `R` leaves the stored value on `R` and everything else as it was.
-/
module

public import proofs.«01_k».proof.Proof.Protocol

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The `i`-th buffer in a core's vector memory. -/
abbrev vr (i : Fin 11) : Ref sig .tc := ⟨.vmem, i, rfl⟩

variable (c : Dev nD) (i : Fin 11) {R : Rect (vr i).ty.shape} {S : Finset (Idx ((c : Thread nD τ).loc (vr i)))}

theorem wp_ld {α : Type} {Q : α → sProp 𝕄} {hl : (Memref.whole (vr i) : Memref sig .tc .vmem _ _).view.LoadsAt R.toLoadRect} {q : PosShare TreeShare}
    {f : Buf (Elt F) ((c : Thread nD τ).loc (vr i))} {v : R.shape.Idx → Elt F (vr i).ty.elt} (hv : on R v f) (hS : R.set ⊆ S)
    {k : (R.shape.Idx → Elt F (vr i).ty.elt) → Prog (TpuEff nD τ sig (Elt F) Λ₀ .tc) α} :
    ((c : Thread nD τ).loc (vr i) ↦[S]{q} f)
      ⊢ iprop((((c : Thread nD τ).loc (vr i) ↦[S]{q} f) -∗ wp frame (wpE (defs₀ (F := F)) 𝒱₀ (c : Thread nD τ) none) Set.univ (k v) Q)
        -∗ wp frame (wpE (defs₀ (F := F)) 𝒱₀ (c : Thread nD τ) none) Set.univ
            (.op (.load (Memref.whole (vr i) : Memref sig .tc .vmem _ _) R.toLoadRect hl) k) Q) := by
  have e := readAt_on hv
  subst e
  exact wp_load (Ix := Unit) (Name := ℕ) (U := UU) (Lvl := ℕ) (defs := defs₀ (F := F)) 𝒱₀ (c : Thread nD τ) none Set.univ
    (m := (Memref.whole (vr i) : Memref sig .tc .vmem _ _)) (r := R.toLoadRect) (hl := hl) (k := k) (S := S) (q := q) (f := f) (Q := Q)
    (by intro j hj; obtain ⟨j', hj', rfl⟩ := Finset.mem_map.mp hj; exact hS hj')

theorem wp_st {α : Type} {Q : α → sProp 𝕄} {w : R.shape.Idx → Elt F (vr i).ty.elt} {hx : ((Memref.whole (vr i) : Memref sig .tc .vmem _ _).access R).Stores Finset.univ}
    {hm : (Finset.univ : Finset R.shape.Idx) = Finset.univ ∨ ∀ a, R.stride a = 1}
    {f : Buf (Elt F) ((c : Thread nD τ).loc (vr i))} (hS : R.set ⊆ S)
    {k : PUnit → Prog (TpuEff nD τ sig (Elt F) Λ₀ .tc) α} :
    ((c : Thread nD τ).loc (vr i) ↦[S]{fullShare} f)
      ⊢ iprop(((∃ g : Buf (Elt F) ((c : Thread nD τ).loc (vr i)), ⌜on R w g ∧ ∀ j, j ∉ R.set → g j = f j⌝ ∗ ((c : Thread nD τ).loc (vr i) ↦[S]{fullShare} g))
            -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole (vr i) : Memref sig .tc .vmem _ _) R w Finset.univ hx hm) k) Q) := by
  iintro H Hk
  iapply (wp_store (Ix := Unit) (Name := ℕ) (U := UU) (Lvl := ℕ) (defs := defs₀ (F := F)) 𝒱₀ (c : Thread nD τ) none Set.univ
    (m := (Memref.whole (vr i) : Memref sig .tc .vmem _ _)) (r := R) (Mk := Finset.univ) (S := S) (by rw [setOn_access (b := vr i)]; exact hS)) $$ H
  iintro H
  iapply Hk
  iexists _
  isplitr
  · ipureintro
    exact ⟨on_write (b := vr i) R f w, fun j hj => write_off (b := vr i) R f w hj⟩
  iexact H

end Cert.KernelIdeal.Sq

end
-- ==== Proof.Streams.lean ====
/-
# A stream, exchange by exchange

`stage0 … stage6` are what a device holds for one stream between the parts of the program: before its first send, after
it, after its own product, after the first exchange was added in, after the quarter was finished, after the half was
assembled, and at the end. Each part of the program takes one to the next, for any stream, and is proved once: the
printed offsets, semaphores and target device come in with the equation that reads them on the square.
-/
module

public import proofs.«01_k».proof.Proof.Steps

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Device `c` runs `p` safely to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The buffers the program names -/

abbrev mO : Memref sig .tc .vmem S1536x1536 .f32 := Memref.whole cc0_stg2_0
abbrev mA : Memref sig .tc .vmem S1536x768 .bf16 := Memref.whole cc0_scratch0
abbrev mB : Memref sig .tc .vmem S768x1536 .bf16 := Memref.whole cc0_scratch1
abbrev m2 : Memref sig .tc .vmem S4x768x384 .bf16 := Memref.whole cc0_scratch2
abbrev m3 : Memref sig .tc .vmem S4x768x384 .bf16 := Memref.whole cc0_scratch3
abbrev m4 : Memref sig .tc .vmem S4x384x384 .bf16 := Memref.whole cc0_scratch4
abbrev m5 : Memref sig .tc .vmem S4x384x384 .bf16 := Memref.whole cc0_scratch5
abbrev m6 : Memref sig .tc .vmem S4x768x384 .bf16 := Memref.whole cc0_scratch6
abbrev m7 : Memref sig .tc .vmem S4x768x384 .bf16 := Memref.whole cc0_scratch7

/-- A slot of a four-slot buffer, a quarter of one, and a slot of a buffer of quarters, squeezed to their two axes. -/
abbrev slotH (mm : Memref sig .tc .vmem S4x768x384 .bf16) (o : Fin 3 → Nat) (h : ∀ a, o a + S1x768x384.size a ≤ S4x768x384.size a) :
    Memref sig .tc .vmem S768x384 .bf16 :=
  (mm.slice (Rect.unit (s := S4x768x384) o S1x768x384.size h) (fun _ => rfl)).squeeze S768x384 squeezes_S1x768x384_S768x384
abbrev slotQ (mm : Memref sig .tc .vmem S4x768x384 .bf16) (o : Fin 3 → Nat) (h : ∀ a, o a + S1x384x384.size a ≤ S4x768x384.size a) :
    Memref sig .tc .vmem S384x384 .bf16 :=
  (mm.slice (Rect.unit (s := S4x768x384) o S1x384x384.size h) (fun _ => rfl)).squeeze S384x384 squeezes_S1x384x384_S384x384
abbrev slotT (mm : Memref sig .tc .vmem S4x384x384 .bf16) (o : Fin 3 → Nat) (h : ∀ a, o a + S1x384x384.size a ≤ S4x384x384.size a) :
    Memref sig .tc .vmem S384x384 .bf16 :=
  (mm.slice (Rect.unit (s := S4x384x384) o S1x384x384.size h) (fun _ => rfl)).squeeze S384x384 squeezes_S1x384x384_S384x384

/-! ## What a device holds for a stream -/

/-- Stream `s` of the result buffer, its contents as `P` says. -/
def strip (c : Dev nD) (s : Fin 4) (P : (cc0_stg2_0 : Ref sig .tc).ty.Contents (Elt F) → Prop) : sProp 𝕄 :=
  iprop(∃ f : Buf (Elt F) ((c : Thread nD τ).loc cc0_stg2_0), ⌜P f⌝ ∗ ((c : Thread nD τ).loc cc0_stg2_0 ↦[(rStrip s).set]{fullShare} f))

/-- The half kept holds the device's own product; -/
def out1 (c : Dev nD) (s : Fin 4) (f : (cc0_stg2_0 : Ref sig .tc).ty.Contents (Elt F)) : Prop :=
  on (b := cc0_stg2_0) (rH (half c s) s) (own m ρ c s) f
/-- its quarter the sum over two devices; -/
def out2 (c : Dev nD) (s : Fin 4) (f : (cc0_stg2_0 : Ref sig .tc).ty.Contents (Elt F)) : Prop :=
  on (b := cc0_stg2_0) (rQ (half c s) (quar c s) s) (acc m ρ c s (quar c s)) f
/-- its quarter the final values; -/
def out3 (c : Dev nD) (s : Fin 4) (f : (cc0_stg2_0 : Ref sig .tc).ty.Contents (Elt F)) : Prop :=
  on (b := cc0_stg2_0) (rQ (half c s) (quar c s) s) (fin m ρ c s) f
/-- the other quarter the second partner's; -/
def out4 (c : Dev nD) (s : Fin 4) (f : (cc0_stg2_0 : Ref sig .tc).ty.Contents (Elt F)) : Prop :=
  out3 m ρ c s f ∧ on (b := cc0_stg2_0) (rQ (half c s) (1 - quar c s) s) (k0_pay32 (v3 m ρ (pb c s) s)) f
/-- the other half the first partner's. -/
def out5 (c : Dev nD) (s : Fin 4) (f : (cc0_stg2_0 : Ref sig .tc).ty.Contents (Elt F)) : Prop :=
  out4 m ρ c s f ∧ on (b := cc0_stg2_0) (rH (1 - half c s) s) (k0_pay36 (v4 m ρ (pa c s) s)) f

/-- The rounded operands, held whole. -/
def mats (c : Dev nD) : sProp 𝕄 :=
  iprop((∃ f : Buf (Elt F) ((c : Thread nD τ).loc cc0_scratch0), ⌜f = qA m ρ c⌝ ∗ ((c : Thread nD τ).loc cc0_scratch0 ↦{fullShare} f))
    ∗ (∃ f : Buf (Elt F) ((c : Thread nD τ).loc cc0_scratch1), ⌜f = qB m ρ c⌝ ∗ ((c : Thread nD τ).loc cc0_scratch1 ↦{fullShare} f)))

def stage0 (c : Dev nD) (s : Fin 4) : sProp 𝕄 :=
  iprop(free c cc0_scratch2 (rS s) ∗ free c cc0_scratch4 (rT s) ∗ free c cc0_scratch6 (rSq s (quar c s)) ∗ strip c s (fun _ => True)
    ∗ free (pa c s) cc0_scratch3 (rS s) ∗ free (pa c s) cc0_scratch7 (rS s) ∗ free (pb c s) cc0_scratch5 (rT s) ∗ free (pb c s) cc0_scratch6 (rSq s (quar c s))
    ∗ tick c s 0 ∗ tick c s 1 ∗ tick c s 2 ∗ tick c s 3)
def stage1 (c : Dev nD) (s : Fin 4) : sProp 𝕄 :=
  iprop(free c cc0_scratch4 (rT s) ∗ free c cc0_scratch6 (rSq s (quar c s)) ∗ strip c s (fun _ => True)
    ∗ free (pa c s) cc0_scratch7 (rS s) ∗ free (pb c s) cc0_scratch5 (rT s) ∗ free (pb c s) cc0_scratch6 (rSq s (quar c s))
    ∗ sent c s 0 ∗ tick c s 1 ∗ tick c s 2 ∗ tick c s 3)
def stage2 (c : Dev nD) (s : Fin 4) : sProp 𝕄 :=
  iprop(free c cc0_scratch4 (rT s) ∗ free c cc0_scratch6 (rSq s (quar c s)) ∗ strip c s (out1 m ρ c s)
    ∗ free (pa c s) cc0_scratch7 (rS s) ∗ free (pb c s) cc0_scratch5 (rT s) ∗ free (pb c s) cc0_scratch6 (rSq s (quar c s))
    ∗ sent c s 0 ∗ tick c s 1 ∗ tick c s 2 ∗ tick c s 3)
def stage3 (c : Dev nD) (s : Fin 4) : sProp 𝕄 :=
  iprop(free c cc0_scratch2 (rS s) ∗ free c cc0_scratch3 (rS s) ∗ free c cc0_scratch6 (rSq s (quar c s)) ∗ strip c s (out2 m ρ c s)
    ∗ free (pa c s) cc0_scratch7 (rS s) ∗ free (pb c s) cc0_scratch6 (rSq s (quar c s))
    ∗ over c s 0 ∗ sent c s 1 ∗ tick c s 2 ∗ tick c s 3)
def stage4 (c : Dev nD) (s : Fin 4) : sProp 𝕄 :=
  iprop(free c cc0_scratch2 (rS s) ∗ free c cc0_scratch3 (rS s) ∗ free c cc0_scratch4 (rT s) ∗ free c cc0_scratch5 (rT s)
    ∗ strip c s (out3 m ρ c s) ∗ free (pa c s) cc0_scratch7 (rS s)
    ∗ over c s 0 ∗ over c s 1 ∗ sent c s 2 ∗ tick c s 3)
def stage5 (c : Dev nD) (s : Fin 4) : sProp 𝕄 :=
  iprop(free c cc0_scratch2 (rS s) ∗ free c cc0_scratch3 (rS s) ∗ free c cc0_scratch4 (rT s) ∗ free c cc0_scratch5 (rT s)
    ∗ strip c s (out4 m ρ c s) ∗ holds c cc0_scratch6 (rS s) fullShare.right (v4 m ρ c s)
    ∗ over c s 0 ∗ over c s 1 ∗ over c s 2 ∗ sent c s 3)
def stage6 (c : Dev nD) (s : Fin 4) : sProp 𝕄 :=
  iprop(free c cc0_scratch2 (rS s) ∗ free c cc0_scratch3 (rS s) ∗ free c cc0_scratch4 (rT s) ∗ free c cc0_scratch5 (rT s)
    ∗ free c cc0_scratch6 (rS s) ∗ free c cc0_scratch7 (rS s) ∗ strip c s (out5 m ρ c s)
    ∗ over c s 0 ∗ over c s 1 ∗ over c s 2 ∗ over c s 3)

/-! ## Slots as the copies see them -/

/-- A rectangle held is the squeezed slot a copy names; and back. -/
theorem toSlot (d : Dev nD) {b : Ref sig .tc} (R : Rect b.ty.shape) {S : Shape} (hS : S.numel = R.shape.numel) {q : PosShare TreeShare}
    {f : Buf (Elt F) ((d : Thread nD τ).loc b)} :
    ((d : Thread nD τ).loc b ↦[R.set]{q} f)
      ⊢ ((((View.whole b : View sig .tc _ _ _).slice R).reshape S hS).loc (d : Thread nD τ)
          ↦[(((View.whole b : View sig .tc _ _ _).slice R).reshape S hS).set]{q} f : sProp 𝕄) := by rw [set_slot R hS]
theorem ofSlot (d : Dev nD) {b : Ref sig .tc} (R : Rect b.ty.shape) {S : Shape} (hS : S.numel = R.shape.numel) {q : PosShare TreeShare}
    {f : Buf (Elt F) ((d : Thread nD τ).loc b)} :
    ((((View.whole b : View sig .tc _ _ _).slice R).reshape S hS).loc (d : Thread nD τ)
          ↦[(((View.whole b : View sig .tc _ _ _).slice R).reshape S hS).set]{q} f)
      ⊢ ((d : Thread nD τ).loc b ↦[R.set]{q} f : sProp 𝕄) := by rw [set_slot R hS]

/-- What a rectangle reads, held. -/
theorem holds_intro (d : Dev nD) {b : Ref sig .tc} {R : Rect b.ty.shape} {q : PosShare TreeShare} {v : R.shape.Idx → Elt F b.ty.elt}
    {f : Buf (Elt F) ((d : Thread nD τ).loc b)} (h : on R v f) : ((d : Thread nD τ).loc b ↦[R.set]{q} f) ⊢ holds d b R q v := by
  unfold holds; iintro H; iexists f; isplitr; · ipureintro; exact h
  iexact H
theorem free_intro (d : Dev nD) {b : Ref sig .tc} {R : Rect b.ty.shape} {f : Buf (Elt F) ((d : Thread nD τ).loc b)} :
    ((d : Thread nD τ).loc b ↦[R.set]{fullShare} f) ⊢ free d b R := by
  unfold free; iintro H; iexists f; iexact H

variable (K : Dev nD × Option Xf → ℕ) (c : Dev nD) (s : Fin 4)

/-- A whole slot, as the element count of its squeezed view. -/
abbrev nH : S768x384.numel = S1x768x384.numel := (squeezes_S1x768x384_S768x384).numel_eq
abbrev nQ : S384x384.numel = S1x384x384.numel := (squeezes_S1x384x384_S384x384).numel_eq

/-- What lands on the peer in exchange 0. -/
theorem land0 {is₃ is₄} {g : (cc0_scratch2 : Ref sig .tc).ty.Contents (Elt F)} {f : (cc0_scratch3 : Ref sig .tc).ty.Contents (Elt F)}
    {v} (hv : on (b := cc0_scratch2) (rS s) v g) :
    on (b := cc0_scratch3) (rS s) v
      ((slotH m3 ![s.val, 0, 0] is₄).view.write (Elt F) f ((slotH m2 ![s.val, 0, 0] is₃).view.read (Elt F) g) Finset.univ) :=
  on_of_read_slot (b := cc0_scratch3) nH ((View.read_write_univ _ _).trans (read_slot (b := cc0_scratch2) nH hv))

/-- What lands in exchange 1, -/
theorem land1 {is₃ is₄} {g : (cc0_scratch4 : Ref sig .tc).ty.Contents (Elt F)} {f : (cc0_scratch5 : Ref sig .tc).ty.Contents (Elt F)}
    {v} (hv : on (b := cc0_scratch4) (rT s) v g) :
    on (b := cc0_scratch5) (rT s) v
      ((slotT m5 ![s.val, 0, 0] is₄).view.write (Elt F) f ((slotT m4 ![s.val, 0, 0] is₃).view.read (Elt F) g) Finset.univ) :=
  on_of_read_slot (b := cc0_scratch5) nQ ((View.read_write_univ _ _).trans (read_slot (b := cc0_scratch4) nQ hv))

/-- in exchange 2, -/
theorem land2 {q : Fin 2} {is₃ is₄} {g : (cc0_scratch6 : Ref sig .tc).ty.Contents (Elt F)} {f : (cc0_scratch6 : Ref sig .tc).ty.Contents (Elt F)}
    {v} (hv : on (b := cc0_scratch6) (rSq s q) v g) :
    on (b := cc0_scratch6) (rSq s q) v
      ((slotQ m6 (oS s q) is₄).view.write (Elt F) f ((slotQ m6 (oS s q) is₃).view.read (Elt F) g) Finset.univ) :=
  on_of_read_slot (b := cc0_scratch6) nQ ((View.read_write_univ _ _).trans (read_slot (b := cc0_scratch6) nQ hv))

/-- and in exchange 3. -/
theorem land3 {is₃ is₄} {g : (cc0_scratch6 : Ref sig .tc).ty.Contents (Elt F)} {f : (cc0_scratch7 : Ref sig .tc).ty.Contents (Elt F)}
    {v} (hv : on (b := cc0_scratch6) (rS s) v g) :
    on (b := cc0_scratch7) (rS s) v
      ((slotH m7 ![s.val, 0, 0] is₄).view.write (Elt F) f ((slotH m6 ![s.val, 0, 0] is₃).view.read (Elt F) g) Finset.univ) :=
  on_of_read_slot (b := cc0_scratch7) nH ((View.read_write_univ _ _).trans (read_slot (b := cc0_scratch6) nH hv))

/-- What the semaphores count does not depend on the slot. -/
theorem credit0 (is₄) : (slotH m3 ![s.val, 0, 0] is₄).view.dmaCredit = amt 0 := rfl
theorem credit0' (is₄) : (slotH m2 ![s.val, 0, 0] is₄).view.dmaCredit = amt 0 := rfl
theorem credit1 (is₄) : (slotT m5 ![s.val, 0, 0] is₄).view.dmaCredit = amt 1 := rfl
theorem credit1' (is₄) : (slotT m4 ![s.val, 0, 0] is₄).view.dmaCredit = amt 1 := rfl
theorem credit2 (q : Fin 2) (is₄) : (slotQ m6 (oS s q) is₄).view.dmaCredit = amt 2 := rfl
theorem credit3 (is₄) : (slotH m7 ![s.val, 0, 0] is₄).view.dmaCredit = amt 3 := rfl
theorem credit3' (is₄) : (slotH m6 ![s.val, 0, 0] is₄).view.dmaCredit = amt 3 := rfl

/-- The half assembled from its two quarters. -/
theorem on_v4 {f : (cc0_scratch6 : Ref sig .tc).ty.Contents (Elt F)} (h : on (b := cc0_scratch6) (rSq s (quar c s)) (v3 m ρ c s) f)
    (h' : on (b := cc0_scratch6) (rSq s (1 - quar c s)) (v3 m ρ (pb c s) s) f) : on (b := cc0_scratch6) (rS s) (v4 m ρ c s) f := by
  intro j
  have hj : ∀ q : Fin 2, (j 1 : Nat) / 384 = q.val → (rS s).emb j = (rSq s q).emb (inQ j) := fun q hq => by
    have h0 := (j 0).isLt
    simp at h0
    funext a
    refine Fin.ext ?_
    rw [Rect.emb_apply, Rect.emb_apply]
    fin_cases a
    · simp [inQ]; omega
    · simp [inQ]; omega
    · simp [inQ]
  unfold v4
  have h1 := (j 1).isLt
  simp at h1
  split
  · next hq => rw [hj _ hq]; exact h _
  · next hq =>
    have hq' : (j 1 : Nat) / 384 = (1 - quar c s : Fin 2).val := by rw [val_sub]; have := f2 (quar c s); omega
    rw [hj _ hq']; exact h' _

/-- The quarter finished here and the one received make up the slot; one half of its share goes with the copy. -/
theorem join_quarters :
    iprop(holds c cc0_scratch6 (rSq s (quar c s)) fullShare (v3 m ρ c s) ∗ holds c cc0_scratch6 (rSq s (1 - quar c s)) fullShare (v3 m ρ (pb c s) s))
      ⊢ (iprop(∃ w : Buf (Elt F) ((c : Thread nD τ).loc cc0_scratch6),
          ⌜on (b := cc0_scratch6) (rS s) (v4 m ρ c s) w ∧ on (b := cc0_scratch6) (rSq s (1 - quar c s)) (v3 m ρ (pb c s) s) w⌝
          ∗ ((c : Thread nD τ).loc cc0_scratch6 ↦[(rS s).set]{fullShare.left} w) ∗ ((c : Thread nD τ).loc cc0_scratch6 ↦[(rS s).set]{fullShare.right} w)) : sProp 𝕄) := by
  unfold holds
  iintro ⟨⟨%e, %he, P⟩, ⟨%e', %he', R⟩⟩
  have hdj : Disjoint (rSq s (quar c s)).set (rSq s (1 - quar c s)).set := rSq_disj s (ne_sub_fin2 _)
  ihave H6 := (pointsTo_join (ℓ := (c : Thread nD τ).loc cc0_scratch6) (q := fullShare) (f := e) (g := e') hdj) $$ [P R]
  · isplitl [P] <;> iassumption
  have hw₁ : on (b := cc0_scratch6) (rSq s (quar c s)) (v3 m ρ c s) ((rSq s (1 - quar c s)).set.piecewise e' e) :=
    on_congr he fun i hi => Finset.piecewise_eq_of_notMem _ _ _ (Finset.disjoint_left.mp hdj hi)
  have hw₂ : on (b := cc0_scratch6) (rSq s (1 - quar c s)) (v3 m ρ (pb c s) s) ((rSq s (1 - quar c s)).set.piecewise e' e) :=
    on_congr he' fun i hi => Finset.piecewise_eq_of_mem _ _ _ hi
  have h := (pointsTo_share (ℓ := (c : Thread nD τ).loc cc0_scratch6) (I := (rSq s (quar c s)).set ∪ (rSq s (1 - quar c s)).set)
    (f := (rSq s (1 - quar c s)).set.piecewise e' e) (Ix := Unit) (Name := ℕ) (U := UU) (Lvl := ℕ) (PosShare.mem_left_op_right fullShare)).1
  rw [rSq_cover] at h
  iexists ((rSq s (1 - quar c s)).set.piecewise e' e)
  isplitr; · ipureintro; exact ⟨on_v4 m ρ c s hw₁ hw₂, hw₂⟩
  rw [rSq_cover]
  iapply h $$ H6

/-- The two shares of a rectangle make it free again. -/
theorem join_shares (b : Ref sig .tc) (R : Rect b.ty.shape) (v : R.shape.Idx → Elt F b.ty.elt) :
    iprop(holds c b R fullShare.left v ∗ holds c b R fullShare.right v) ⊢ (free c b R : sProp 𝕄) := by
  unfold holds free
  iintro ⟨⟨%e, %he, P⟩, ⟨%w, %hw, H⟩⟩
  have h := pointsTo_congr (ℓ := (c : Thread nD τ).loc b) (Ix := Unit) (Name := ℕ) (U := UU) (Lvl := ℕ) (q := fullShare.left) (on_unique (b := b) (R := R) he hw)
  ihave P := (Entails.of_eq h) $$ P
  iexists w
  iapply (pointsTo_share (PosShare.mem_left_op_right fullShare)).2
  isplitl [P] <;> iassumption

/-- The first send: the product on the half given away goes to the first partner. -/
theorem part_send {α : Type} {Q : α → sProp 𝕄} {k : PUnit → Prog (TpuEff nD τ sig (Elt F) Λ₀ .tc) α} {i : ℕ} (hi : i = s.val) {oa ob : Fin 2 → Nat} {os : Fin 3 → Nat}
    (hoa : oa = oA (1 - half c s)) (hob : ob = ![0, s.val * 384]) (hos : os = ![s.val, 0, 0])
    {pay : Vec F S768x768 .bf16 → Vec F S768x384 .bf16 → FVec F S1x768x384 .bf16} (hp : ∀ a b, pay a b = k0_pay4 a b)
    {n : Dev nD} (hn : n = pa c s) {sS sR : DmaSem sig} (hS : sS = xsem (false, s, 0)) (hR : sR = xsem (true, s, 0))
    {ia : ∀ a, oa a + S768x768.size a ≤ S1536x768.size a} {ib : ∀ a, ob a + S768x384.size a ≤ S768x1536.size a}
    {is₁ is₂ is₃ is₄ : ∀ a, os a + S1x768x384.size a ≤ S4x768x384.size a}
    {l₁ : mA.view.LoadsAt (Rect.unit (s := S1536x768) oa S768x768.size ia).toLoadRect}
    {l₂ : mB.view.LoadsAt (Rect.unit (s := S768x1536) ob S768x384.size ib).toLoadRect}
    {l₃ : m2.view.LoadsAt (Rect.unit (s := S4x768x384) os S1x768x384.size is₁).toLoadRect}
    {x₁ : (m2.access (Rect.unit (s := S4x768x384) os S1x768x384.size is₂)).Stores Finset.univ}
    {y₁ : (Finset.univ : Finset S1x768x384.Idx) = Finset.univ ∨ ∀ a, (Rect.unit (s := S4x768x384) os S1x768x384.size is₂).stride a = 1}
    {hsc : ((slotH m3 os is₄) : Memref sig (Dev.tc n : Thread nD τ).2.kind .vmem S768x384 .bf16).view.ref.isScScratch = false}
    {w₁ : (slotH m2 os is₃).view.WordExact} {w₂ : (slotH m3 os is₄).view.WordExact}
    {t₁ : DmaTarget.Typed .vmem (.dma sR) (.remote (Dev.tc n : Thread nD τ) (slotH m3 os is₄) (.dma sS) hsc)} :
    iprop(records m ρ K ∗ duty c i ∗ mats m ρ c ∗ stage0 c s)
      ⊢ iprop(((duty c (i + 1) ∗ mats m ρ c ∗ stage1 c s) -∗ runs c (k ⟨⟩) Q)
        -∗ runs c (.op (.load mA (Rect.unit (s := S1536x768) oa S768x768.size ia).toLoadRect l₁) fun a =>
            .op (.load mB (Rect.unit (s := S768x1536) ob S768x384.size ib).toLoadRect l₂) fun b =>
            .op (.load m2 (Rect.unit (s := S4x768x384) os S1x768x384.size is₁).toLoadRect l₃) fun _ =>
            .op (.store m2 (Rect.unit (s := S4x768x384) os S1x768x384.size is₂) (pay a b) Finset.univ x₁ y₁) fun _ =>
            .op (.enqueueDma (slotH m2 os is₃) (.remote (Dev.tc n : Thread nD τ) (slotH m3 os is₄) (.dma sS) hsc) (.dma sR) w₁ w₂ t₁) k) Q) := by
  subst hoa hob hos hn
  unfold stage0 stage1 mats
  iintro ⟨#Hr, Hd, ⟨⟨%fa, %ha, HA⟩, ⟨%fb, %hb, HB⟩⟩, H2, H4, H6, Ho, L3, L7, L5, L6, T0, T1, T2, T3⟩ Hk
  subst ha hb
  unfold free
  icases H2 with ⟨%f2, H2⟩
  icases L3 with ⟨%f3, L3⟩
  iapply (wp_ld c 3 (R := rA (1 - half c s)) (v := hA m ρ c (1 - half c s)) (on_self (b := vr 3) _ _) (Finset.subset_univ _)) $$ HA; iintro HA
  iapply (wp_ld c 4 (R := rB s) (v := hB m ρ c s) (on_self (b := vr 4) _ _) (Finset.subset_univ _)) $$ HB; iintro HB
  iapply (wp_ld c 5 (R := rS s) (on_self (b := vr 5) _ _) (Finset.Subset.refl _)) $$ H2; iintro H2
  iapply (wp_st c 5 (R := rS s) (Finset.Subset.refl _)) $$ H2; iintro ⟨%g2, %hg2, H2⟩
  have hv : on (b := cc0_scratch2) (rS s) (v1 m ρ c s) g2 := fun j => (hg2.1 j).trans (congrFun (hp _ _) j)
  have hl : on (b := cc0_scratch3) (rS s) (v1 m ρ (pa (pa c s) s) s)
      ((slotH m3 ![s.val, 0, 0] is₄).view.write (Elt F) f3 ((slotH m2 ![s.val, 0, 0] is₃).view.read (Elt F) g2) Finset.univ) := by
    rw [pa_pa]; exact land0 s hv
  have X := wp_xfer (k := k) (Q := Q) m ρ K c s 0 i (by rw [hi]; simp) (pa c s) rfl hS hR (credit0 s is₄) (hsrc := w₁) (hdst := w₂) (hsem := t₁)
    (q := fullShare) (fs := g2) (fd := f3) ((ofSlot c (b := cc0_scratch2) (rS s) nH).trans (free_intro c))
    ((ofSlot (pa c s) (b := cc0_scratch3) (rS s) nH).trans (holds_intro (pa c s) hl))
  iapply X $$ [H2 L3 Hd T0]
  · isplitr; · iexact Hr
    isplitl [H2]; · iapply (toSlot c (b := cc0_scratch2) (rS s) nH) $$ H2
    isplitl [L3]; · iapply (toSlot (pa c s) (b := cc0_scratch3) (rS s) nH) $$ L3
    isplitl [Hd] <;> iassumption
  iintro ⟨Hd, S0⟩
  iapply Hk
  iframe Hd H4 H6 Ho L7 L5 L6 S0 T1 T2 T3
  isplitl [HA]
  · iexists _; isplitr; · ipureintro; rfl
    iexact HA
  · iexists _; isplitr; · ipureintro; rfl
    iexact HB

/-- The device's own product on the half it keeps. -/
theorem part_own {α : Type} {Q : α → sProp 𝕄} {k : PUnit → Prog (TpuEff nD τ sig (Elt F) Λ₀ .tc) α} {oa ob oo : Fin 2 → Nat}
    (hoa : oa = oA (half c s)) (hob : ob = ![0, s.val * 384]) (hoo : oo = oH (half c s) s)
    {pay : Vec F S768x768 .bf16 → Vec F S768x384 .bf16 → FVec F S768x384 .f32} (hp : ∀ a b, pay a b = k0_pay10 a b)
    {ia : ∀ a, oa a + S768x768.size a ≤ S1536x768.size a} {ib : ∀ a, ob a + S768x384.size a ≤ S768x1536.size a}
    {io₁ io₂ : ∀ a, oo a + S768x384.size a ≤ S1536x1536.size a}
    {l₁ : mA.view.LoadsAt (Rect.unit (s := S1536x768) oa S768x768.size ia).toLoadRect}
    {l₂ : mB.view.LoadsAt (Rect.unit (s := S768x1536) ob S768x384.size ib).toLoadRect}
    {l₃ : mO.view.LoadsAt (Rect.unit (s := S1536x1536) oo S768x384.size io₁).toLoadRect}
    {x₁ : (mO.access (Rect.unit (s := S1536x1536) oo S768x384.size io₂)).Stores Finset.univ}
    {y₁ : (Finset.univ : Finset S768x384.Idx) = Finset.univ ∨ ∀ a, (Rect.unit (s := S1536x1536) oo S768x384.size io₂).stride a = 1} :
    iprop(mats m ρ c ∗ stage1 c s)
      ⊢ iprop(((mats m ρ c ∗ stage2 m ρ c s) -∗ runs c (k ⟨⟩) Q)
        -∗ runs c (.op (.load mA (Rect.unit (s := S1536x768) oa S768x768.size ia).toLoadRect l₁) fun a =>
            .op (.load mB (Rect.unit (s := S768x1536) ob S768x384.size ib).toLoadRect l₂) fun b =>
            .op (.load mO (Rect.unit (s := S1536x1536) oo S768x384.size io₁).toLoadRect l₃) fun _ =>
            .op (.store mO (Rect.unit (s := S1536x1536) oo S768x384.size io₂) (pay a b) Finset.univ x₁ y₁) k) Q) := by
  subst hoa hob hoo
  unfold stage1 stage2 mats
  iintro ⟨⟨⟨%fa, %ha, HA⟩, ⟨%fb, %hb, HB⟩⟩, H4, H6, Ho, L7, L5, L6, S0, T1, T2, T3⟩ Hk
  subst ha hb
  unfold strip
  icases Ho with ⟨%f, -, Ho⟩
  iapply (wp_ld c 3 (R := rA (half c s)) (v := hA m ρ c (half c s)) (on_self (b := vr 3) _ _) (Finset.subset_univ _)) $$ HA; iintro HA
  iapply (wp_ld c 4 (R := rB s) (v := hB m ρ c s) (on_self (b := vr 4) _ _) (Finset.subset_univ _)) $$ HB; iintro HB
  iapply (wp_ld c 2 (R := rH (half c s) s) (on_self (b := vr 2) _ _) (rH_sub _ s)) $$ Ho; iintro Ho
  iapply (wp_st c 2 (R := rH (half c s) s) (rH_sub _ s)) $$ Ho; iintro ⟨%g, %hg, Ho⟩
  have hv : out1 m ρ c s g := fun j => (hg.1 j).trans (congrFun (hp _ _) j)
  iapply Hk
  iframe H4 H6 L7 L5 L6 S0 T1 T2 T3
  isplitl [HA HB]
  · isplitl [HA]
    · iexists _; isplitr; · ipureintro; rfl
      iexact HA
    · iexists _; isplitr; · ipureintro; rfl
      iexact HB
  · iexists g; isplitr; · ipureintro; exact hv
    iexact Ho

/-- The first exchange is over: the quarter given away is summed and sent to the second partner, the quarter kept summed. -/
theorem part_sum {α : Type} {Q : α → sProp 𝕄} {k : PUnit → Prog (TpuEff nD τ sig (Elt F) Λ₀ .tc) α} {i : ℕ} (hi : i = 4 + s.val)
    {o₁ o₃ : Fin 2 → Nat} {o₂ o₄ os : Fin 3 → Nat} (ho₁ : o₁ = oQ (half c s) (1 - quar c s) s) (ho₂ : o₂ = oS s (1 - quar c s))
    (ho₃ : o₃ = oQ (half c s) (quar c s) s) (ho₄ : o₄ = oS s (quar c s)) (hos : os = ![s.val, 0, 0])
    {pay₁ : Vec F S384x384 .f32 → Vec F S1x384x384 .bf16 → FVec F S1x384x384 .bf16} (hp₁ : ∀ a b, pay₁ a b = k0_pay16 a b)
    {pay₂ : Vec F S384x384 .f32 → Vec F S1x384x384 .bf16 → FVec F S384x384 .f32} (hp₂ : ∀ a b, pay₂ a b = k0_pay15 a b)
    {n : Dev nD} (hn : n = pb c s) {sS₀ sR₀ sS sR : DmaSem sig} (hS₀ : sS₀ = xsem (false, s, 0)) (hR₀ : sR₀ = xsem (true, s, 0))
    (hS : sS = xsem (false, s, 1)) (hR : sR = xsem (true, s, 1))
    {iw₁ iw₂ iw₃ iw₄ : ∀ a, os a + S1x768x384.size a ≤ S4x768x384.size a}
    {i₁ : ∀ a, o₁ a + S384x384.size a ≤ S1536x1536.size a} {i₂ : ∀ a, o₂ a + S1x384x384.size a ≤ S4x768x384.size a}
    {i₃ i₃' i₃'' : ∀ a, o₃ a + S384x384.size a ≤ S1536x1536.size a} {i₄ : ∀ a, o₄ a + S1x384x384.size a ≤ S4x768x384.size a}
    {is₁ is₂ is₃ is₄ : ∀ a, os a + S1x384x384.size a ≤ S4x384x384.size a}
    {w₁ : (slotH m3 os iw₁).view.WordExact} {w₂ : (slotH m2 os iw₂).view.WordExact}
    {w₃ : (slotH m2 os iw₃).view.WordExact} {w₄ : (slotH m3 os iw₄).view.WordExact}
    {l₁ : mO.view.LoadsAt (Rect.unit (s := S1536x1536) o₁ S384x384.size i₁).toLoadRect}
    {l₂ : m3.view.LoadsAt (Rect.unit (s := S4x768x384) o₂ S1x384x384.size i₂).toLoadRect}
    {l₅ : m4.view.LoadsAt (Rect.unit (s := S4x384x384) os S1x384x384.size is₁).toLoadRect}
    {x₅ : (m4.access (Rect.unit (s := S4x384x384) os S1x384x384.size is₂)).Stores Finset.univ}
    {y₅ : (Finset.univ : Finset S1x384x384.Idx) = Finset.univ ∨ ∀ a, (Rect.unit (s := S4x384x384) os S1x384x384.size is₂).stride a = 1}
    {hsc : ((slotT m5 os is₄) : Memref sig (Dev.tc n : Thread nD τ).2.kind .vmem S384x384 .bf16).view.ref.isScScratch = false}
    {w₅ : (slotT m4 os is₃).view.WordExact} {w₆ : (slotT m5 os is₄).view.WordExact}
    {t₁ : DmaTarget.Typed .vmem (.dma sR) (.remote (Dev.tc n : Thread nD τ) (slotT m5 os is₄) (.dma sS) hsc)}
    {l₃ : mO.view.LoadsAt (Rect.unit (s := S1536x1536) o₃ S384x384.size i₃).toLoadRect}
    {l₄ : m3.view.LoadsAt (Rect.unit (s := S4x768x384) o₄ S1x384x384.size i₄).toLoadRect}
    {l₆ : mO.view.LoadsAt (Rect.unit (s := S1536x1536) o₃ S384x384.size i₃').toLoadRect}
    {x₆ : (mO.access (Rect.unit (s := S1536x1536) o₃ S384x384.size i₃'')).Stores Finset.univ}
    {y₆ : (Finset.univ : Finset S384x384.Idx) = Finset.univ ∨ ∀ a, (Rect.unit (s := S1536x1536) o₃ S384x384.size i₃'').stride a = 1} :
    iprop(records m ρ K ∗ duty c i ∗ stage2 m ρ c s)
      ⊢ iprop(((duty c (i + 1) ∗ stage3 m ρ c s) -∗ runs c (k ⟨⟩) Q)
        -∗ runs c (.op (.waitDma2 sS₀ (slotH m3 os iw₁) (slotH m2 os iw₂) w₁ w₂) fun _ =>
            .op (.waitDma2 sR₀ (slotH m2 os iw₃) (slotH m3 os iw₄) w₃ w₄) fun _ =>
            .op (.load mO (Rect.unit (s := S1536x1536) o₁ S384x384.size i₁).toLoadRect l₁) fun a =>
            .op (.load m3 (Rect.unit (s := S4x768x384) o₂ S1x384x384.size i₂).toLoadRect l₂) fun b =>
            .op (.load m4 (Rect.unit (s := S4x384x384) os S1x384x384.size is₁).toLoadRect l₅) fun _ =>
            .op (.store m4 (Rect.unit (s := S4x384x384) os S1x384x384.size is₂) (pay₁ a b) Finset.univ x₅ y₅) fun _ =>
            .op (.enqueueDma (slotT m4 os is₃) (.remote (Dev.tc n : Thread nD τ) (slotT m5 os is₄) (.dma sS) hsc) (.dma sR) w₅ w₆ t₁) fun _ =>
            .op (.load mO (Rect.unit (s := S1536x1536) o₃ S384x384.size i₃).toLoadRect l₃) fun a' =>
            .op (.load m3 (Rect.unit (s := S4x768x384) o₄ S1x384x384.size i₄).toLoadRect l₄) fun b' =>
            .op (.load mO (Rect.unit (s := S1536x1536) o₃ S384x384.size i₃').toLoadRect l₆) fun _ =>
            .op (.store mO (Rect.unit (s := S1536x1536) o₃ S384x384.size i₃'') (pay₂ a' b') Finset.univ x₆ y₆) k) Q) := by
  subst ho₁ ho₂ ho₃ ho₄ hos hn
  unfold stage2 stage3
  iintro ⟨#Hr, Hd, H4, H6, Ho, L7, L5, L6, S0, T1, T2, T3⟩ Hk
  iapply (wp_waits m ρ K c s 0 i (by rw [hi]; simp) hS₀ hR₀ (credit0' s iw₂) (credit0 s iw₄)) $$ [Hd S0]
  · isplitr; · iexact Hr
    isplitl [Hd] <;> iassumption
  iintro ⟨Hd, V0, H2, H3⟩
  unfold strip free
  simp only [sendPay, recvPay, holds, free]
  icases Ho with ⟨%f, %hf, Ho⟩
  icases H3 with ⟨%f3, %hf3, H3⟩
  icases H4 with ⟨%f4, H4⟩
  icases L5 with ⟨%f5, L5⟩
  have hq : ∀ q, on (b := vr 2) (rQ (half c s) q s) (ownQ m ρ c s q) f := fun q j => by rw [rQ_in_rH]; exact hf _
  have hq3 : ∀ q, on (b := vr 6) (rSq s q) (v1Q m ρ (pa c s) s q) f3 := fun q j => by rw [rSq_in_rS]; exact hf3 _
  iapply (wp_ld c 2 (hq (1 - quar c s)) (rQ_sub _ _ s)) $$ Ho; iintro Ho
  iapply (wp_ld c 6 (hq3 (1 - quar c s)) (rSq_sub s _)) $$ H3; iintro H3
  iapply (wp_ld c 7 (R := rT s) (on_self (b := vr 7) _ _) (Finset.Subset.refl _)) $$ H4; iintro H4
  iapply (wp_st c 7 (R := rT s) (Finset.Subset.refl _)) $$ H4; iintro ⟨%g4, %hg4, H4⟩
  have hv : on (b := cc0_scratch4) (rT s) (v2 m ρ c s) g4 := fun j => (hg4.1 j).trans (congrFun (hp₁ _ _) j)
  have hl : on (b := cc0_scratch5) (rT s) (v2 m ρ (pb (pb c s) s) s)
      ((slotT m5 ![s.val, 0, 0] is₄).view.write (Elt F) f5 ((slotT m4 ![s.val, 0, 0] is₃).view.read (Elt F) g4) Finset.univ) := by
    rw [pb_pb]; exact land1 s hv
  have X := wp_xfer (k := fun _ => .op (.load mO (Rect.unit (s := S1536x1536) _ S384x384.size i₃).toLoadRect l₃) fun a' =>
            .op (.load m3 (Rect.unit (s := S4x768x384) _ S1x384x384.size i₄).toLoadRect l₄) fun b' =>
            .op (.load mO (Rect.unit (s := S1536x1536) _ S384x384.size i₃').toLoadRect l₆) fun _ =>
            .op (.store mO (Rect.unit (s := S1536x1536) _ S384x384.size i₃'') (pay₂ a' b') Finset.univ x₆ y₆) k)
    (Q := Q) m ρ K c s 1 i (by rw [hi]; simp) (pb c s) rfl hS hR (credit1 s is₄) (hsrc := w₅) (hdst := w₆) (hsem := t₁)
    (q := fullShare) (fs := g4) (fd := f5) ((ofSlot c (b := cc0_scratch4) (rT s) nQ).trans (free_intro c))
    ((ofSlot (pb c s) (b := cc0_scratch5) (rT s) nQ).trans (holds_intro (pb c s) hl))
  iapply X $$ [H4 L5 Hd T1]
  · isplitr; · iexact Hr
    isplitl [H4]; · iapply (toSlot c (b := cc0_scratch4) (rT s) nQ) $$ H4
    isplitl [L5]; · iapply (toSlot (pb c s) (b := cc0_scratch5) (rT s) nQ) $$ L5
    isplitl [Hd] <;> iassumption
  iintro ⟨Hd, S1⟩
  iapply (wp_ld c 2 (hq (quar c s)) (rQ_sub _ _ s)) $$ Ho; iintro Ho
  iapply (wp_ld c 6 (hq3 (quar c s)) (rSq_sub s _)) $$ H3; iintro H3
  iapply (wp_ld c 2 (hq (quar c s)) (rQ_sub _ _ s)) $$ Ho; iintro Ho
  iapply (wp_st c 2 (R := rQ (half c s) (quar c s) s) (rQ_sub _ _ s)) $$ Ho; iintro ⟨%g, %hg, Ho⟩
  have hv' : out2 m ρ c s g := fun j => (hg.1 j).trans (congrFun (hp₂ _ _) j)
  iapply Hk
  iframe Hd H2 H6 L7 L6 V0 S1 T2 T3
  isplitl [H3]
  · iexists _; iexact H3
  · iexists g; isplitr; · ipureintro; exact hv'
    iexact Ho

/-- The second exchange is over: the quarter kept is finished, and sent to the second partner. -/
theorem part_fin {α : Type} {Q : α → sProp 𝕄} {k : PUnit → Prog (TpuEff nD τ sig (Elt F) Λ₀ .tc) α} {i : ℕ} (hi : i = 8 + s.val)
    {o₁ : Fin 2 → Nat} {o₂ os ow : Fin 3 → Nat} (ho₁ : o₁ = oQ (half c s) (quar c s) s) (ho₂ : o₂ = oS s (quar c s)) (how : ow = oS s (quar c s))
    (hos : os = ![s.val, 0, 0])
    {pay₁ : Vec F S384x384 .f32 → Vec F S1x384x384 .bf16 → FVec F S384x384 .f32} (hp₁ : ∀ a b, pay₁ a b = k0_pay22 a b)
    {pay₂ : Vec F S384x384 .f32 → Vec F S1x384x384 .bf16 → FVec F S1x384x384 .bf16} (hp₂ : ∀ a b, pay₂ a b = k0_pay23 a b)
    {n : Dev nD} (hn : n = pb c s) {sS₀ sR₀ sS sR : DmaSem sig} (hS₀ : sS₀ = xsem (false, s, 1)) (hR₀ : sR₀ = xsem (true, s, 1))
    (hS : sS = xsem (false, s, 2)) (hR : sR = xsem (true, s, 2))
    {iw₁ iw₂ iw₃ iw₄ is₁ : ∀ a, os a + S1x384x384.size a ≤ S4x384x384.size a}
    {i₁ i₁' i₁'' : ∀ a, o₁ a + S384x384.size a ≤ S1536x1536.size a} {i₂ i₂' : ∀ a, o₂ a + S1x384x384.size a ≤ S4x768x384.size a}
    {is₃ is₄ : ∀ a, ow a + S1x384x384.size a ≤ S4x768x384.size a}
    {w₁ : (slotT m5 os iw₁).view.WordExact} {w₂ : (slotT m4 os iw₂).view.WordExact}
    {w₃ : (slotT m4 os iw₃).view.WordExact} {w₄ : (slotT m5 os iw₄).view.WordExact}
    {l₁ : mO.view.LoadsAt (Rect.unit (s := S1536x1536) o₁ S384x384.size i₁).toLoadRect}
    {l₂ : m5.view.LoadsAt (Rect.unit (s := S4x384x384) os S1x384x384.size is₁).toLoadRect}
    {l₃ : mO.view.LoadsAt (Rect.unit (s := S1536x1536) o₁ S384x384.size i₁').toLoadRect}
    {x₃ : (mO.access (Rect.unit (s := S1536x1536) o₁ S384x384.size i₁'')).Stores Finset.univ}
    {y₃ : (Finset.univ : Finset S384x384.Idx) = Finset.univ ∨ ∀ a, (Rect.unit (s := S1536x1536) o₁ S384x384.size i₁'').stride a = 1}
    {l₄ : m6.view.LoadsAt (Rect.unit (s := S4x768x384) o₂ S1x384x384.size i₂).toLoadRect}
    {x₄ : (m6.access (Rect.unit (s := S4x768x384) o₂ S1x384x384.size i₂')).Stores Finset.univ}
    {y₄ : (Finset.univ : Finset S1x384x384.Idx) = Finset.univ ∨ ∀ a, (Rect.unit (s := S4x768x384) o₂ S1x384x384.size i₂').stride a = 1}
    {hsc : ((slotQ m6 ow is₄) : Memref sig (Dev.tc n : Thread nD τ).2.kind .vmem S384x384 .bf16).view.ref.isScScratch = false}
    {w₅ : (slotQ m6 ow is₃).view.WordExact} {w₆ : (slotQ m6 ow is₄).view.WordExact}
    {t₁ : DmaTarget.Typed .vmem (.dma sR) (.remote (Dev.tc n : Thread nD τ) (slotQ m6 ow is₄) (.dma sS) hsc)} :
    iprop(records m ρ K ∗ duty c i ∗ stage3 m ρ c s)
      ⊢ iprop(((duty c (i + 1) ∗ stage4 m ρ c s) -∗ runs c (k ⟨⟩) Q)
        -∗ runs c (.op (.waitDma2 sS₀ (slotT m5 os iw₁) (slotT m4 os iw₂) w₁ w₂) fun _ =>
            .op (.waitDma2 sR₀ (slotT m4 os iw₃) (slotT m5 os iw₄) w₃ w₄) fun _ =>
            .op (.load mO (Rect.unit (s := S1536x1536) o₁ S384x384.size i₁).toLoadRect l₁) fun a =>
            .op (.load m5 (Rect.unit (s := S4x384x384) os S1x384x384.size is₁).toLoadRect l₂) fun b =>
            .op (.load mO (Rect.unit (s := S1536x1536) o₁ S384x384.size i₁').toLoadRect l₃) fun _ =>
            .op (.store mO (Rect.unit (s := S1536x1536) o₁ S384x384.size i₁'') (pay₁ a b) Finset.univ x₃ y₃) fun _ =>
            .op (.load m6 (Rect.unit (s := S4x768x384) o₂ S1x384x384.size i₂).toLoadRect l₄) fun _ =>
            .op (.store m6 (Rect.unit (s := S4x768x384) o₂ S1x384x384.size i₂') (pay₂ a b) Finset.univ x₄ y₄) fun _ =>
            .op (.enqueueDma (slotQ m6 ow is₃) (.remote (Dev.tc n : Thread nD τ) (slotQ m6 ow is₄) (.dma sS) hsc) (.dma sR) w₅ w₆ t₁) k) Q) := by
  subst ho₁ ho₂ how hos hn
  unfold stage3 stage4
  iintro ⟨#Hr, Hd, H2, H3, H6, Ho, L7, L6, V0, S1, T2, T3⟩ Hk
  iapply (wp_waits m ρ K c s 1 i (by rw [hi]; simp) hS₀ hR₀ (credit1' s iw₂) (credit1 s iw₄)) $$ [Hd S1]
  · isplitr; · iexact Hr
    isplitl [Hd] <;> iassumption
  iintro ⟨Hd, V1, H4, H5⟩
  unfold strip free
  simp only [sendPay, recvPay, holds, free]
  icases Ho with ⟨%f, %hf, Ho⟩
  icases H5 with ⟨%f5, %hf5, H5⟩
  icases H6 with ⟨%f6, H6⟩
  icases L6 with ⟨%e6, L6⟩
  iapply (wp_ld c 2 (R := rQ (half c s) (quar c s) s) hf (rQ_sub _ _ s)) $$ Ho; iintro Ho
  iapply (wp_ld c 8 (R := rT s) hf5 (Finset.Subset.refl _)) $$ H5; iintro H5
  iapply (wp_ld c 2 (R := rQ (half c s) (quar c s) s) hf (rQ_sub _ _ s)) $$ Ho; iintro Ho
  iapply (wp_st c 2 (R := rQ (half c s) (quar c s) s) (rQ_sub _ _ s)) $$ Ho; iintro ⟨%g, %hg, Ho⟩
  iapply (wp_ld c 9 (R := rSq s (quar c s)) (on_self (b := vr 9) _ _) (Finset.Subset.refl _)) $$ H6; iintro H6
  iapply (wp_st c 9 (R := rSq s (quar c s)) (Finset.Subset.refl _)) $$ H6; iintro ⟨%g6, %hg6, H6⟩
  have hv' : out3 m ρ c s g := fun j => (hg.1 j).trans (congrFun (hp₁ _ _) j)
  have hv : on (b := cc0_scratch6) (rSq s (quar c s)) (v3 m ρ c s) g6 := fun j => (hg6.1 j).trans (congrFun (hp₂ _ _) j)
  have hl : on (b := cc0_scratch6) (rSq s (quar c s)) (v3 m ρ (pb (pb c s) s) s)
      ((slotQ m6 (oS s (quar c s)) is₄).view.write (Elt F) e6 ((slotQ m6 (oS s (quar c s)) is₃).view.read (Elt F) g6) Finset.univ) := by
    rw [pb_pb]; exact land2 s hv
  have hr : recvPay m ρ (pb c s) s 2 = holds (pb c s) cc0_scratch6 (rSq s (quar c s)) fullShare (v3 m ρ (pb (pb c s) s) s) := by
    have e : 1 - quar (pb c s) s = quar c s := by rw [quar_pb, sub_sub_fin2]
    show holds (pb c s) cc0_scratch6 (rSq s (1 - quar (pb c s) s)) fullShare (v3 m ρ (pb (pb c s) s) s) = _
    rw [e]
  have X := wp_xfer (k := k) (Q := Q) m ρ K c s 2 i (by rw [hi]; simp) (pb c s) rfl hS hR (credit2 s (quar c s) is₄) (hsrc := w₅) (hdst := w₆) (hsem := t₁)
    (q := fullShare) (fs := g6) (fd := e6) ((ofSlot c (b := cc0_scratch6) (rSq s (quar c s)) nQ).trans (holds_intro c hv))
    (((ofSlot (pb c s) (b := cc0_scratch6) (rSq s (quar c s)) nQ).trans (holds_intro (pb c s) hl)).trans (hr ▸ Entails.rfl))
  iapply X $$ [H6 L6 Hd T2]
  · isplitr; · iexact Hr
    isplitl [H6]; · iapply (toSlot c (b := cc0_scratch6) (rSq s (quar c s)) nQ) $$ H6
    isplitl [L6]; · iapply (toSlot (pb c s) (b := cc0_scratch6) (rSq s (quar c s)) nQ) $$ L6
    isplitl [Hd] <;> iassumption
  iintro ⟨Hd, S2⟩
  iapply Hk
  iframe Hd H2 H3 H4 L7 V0 V1 S2 T3
  isplitl [H5]
  · iexists _; iexact H5
  · iexists g; isplitr; · ipureintro; exact hv'
    iexact Ho

/-- The third exchange is over: the half assembled goes to the first partner, the second partner's quarter to the result. -/
theorem part_half {α : Type} {Q : α → sProp 𝕄} {k : PUnit → Prog (TpuEff nD τ sig (Elt F) Λ₀ .tc) α} {i : ℕ} (hi : i = 12 + s.val)
    {o₂ : Fin 2 → Nat} {o₁ os ow : Fin 3 → Nat} (how : ow = oS s (quar c s)) (hos : os = ![s.val, 0, 0])
    (ho₁ : o₁ = oS s (1 - quar c s)) (ho₂ : o₂ = oQ (half c s) (1 - quar c s) s)
    {pay : Vec F S1x384x384 .bf16 → FVec F S384x384 .f32} (hp : ∀ a, pay a = k0_pay32 a)
    {n : Dev nD} (hn : n = pa c s) {sS₀ sR₀ sS sR : DmaSem sig} (hS₀ : sS₀ = xsem (false, s, 2)) (hR₀ : sR₀ = xsem (true, s, 2))
    (hS : sS = xsem (false, s, 3)) (hR : sR = xsem (true, s, 3))
    {iw₁ iw₂ iw₃ iw₄ : ∀ a, ow a + S1x384x384.size a ≤ S4x768x384.size a} {is₃ is₄ : ∀ a, os a + S1x768x384.size a ≤ S4x768x384.size a}
    {i₁ : ∀ a, o₁ a + S1x384x384.size a ≤ S4x768x384.size a} {i₂ i₂' : ∀ a, o₂ a + S384x384.size a ≤ S1536x1536.size a}
    {w₁ : (slotQ m6 ow iw₁).view.WordExact} {w₂ : (slotQ m6 ow iw₂).view.WordExact}
    {w₃ : (slotQ m6 ow iw₃).view.WordExact} {w₄ : (slotQ m6 ow iw₄).view.WordExact}
    {hsc : ((slotH m7 os is₄) : Memref sig (Dev.tc n : Thread nD τ).2.kind .vmem S768x384 .bf16).view.ref.isScScratch = false}
    {w₅ : (slotH m6 os is₃).view.WordExact} {w₆ : (slotH m7 os is₄).view.WordExact}
    {t₁ : DmaTarget.Typed .vmem (.dma sR) (.remote (Dev.tc n : Thread nD τ) (slotH m7 os is₄) (.dma sS) hsc)}
    {l₁ : m6.view.LoadsAt (Rect.unit (s := S4x768x384) o₁ S1x384x384.size i₁).toLoadRect}
    {l₂ : mO.view.LoadsAt (Rect.unit (s := S1536x1536) o₂ S384x384.size i₂).toLoadRect}
    {x₂ : (mO.access (Rect.unit (s := S1536x1536) o₂ S384x384.size i₂')).Stores Finset.univ}
    {y₂ : (Finset.univ : Finset S384x384.Idx) = Finset.univ ∨ ∀ a, (Rect.unit (s := S1536x1536) o₂ S384x384.size i₂').stride a = 1} :
    iprop(records m ρ K ∗ duty c i ∗ stage4 m ρ c s)
      ⊢ iprop(((duty c (i + 1) ∗ stage5 m ρ c s) -∗ runs c (k ⟨⟩) Q)
        -∗ runs c (.op (.waitDma2 sS₀ (slotQ m6 ow iw₁) (slotQ m6 ow iw₂) w₁ w₂) fun _ =>
            .op (.waitDma2 sR₀ (slotQ m6 ow iw₃) (slotQ m6 ow iw₄) w₃ w₄) fun _ =>
            .op (.enqueueDma (slotH m6 os is₃) (.remote (Dev.tc n : Thread nD τ) (slotH m7 os is₄) (.dma sS) hsc) (.dma sR) w₅ w₆ t₁) fun _ =>
            .op (.load m6 (Rect.unit (s := S4x768x384) o₁ S1x384x384.size i₁).toLoadRect l₁) fun a =>
            .op (.load mO (Rect.unit (s := S1536x1536) o₂ S384x384.size i₂).toLoadRect l₂) fun _ =>
            .op (.store mO (Rect.unit (s := S1536x1536) o₂ S384x384.size i₂') (pay a) Finset.univ x₂ y₂) k) Q) := by
  subst ho₁ ho₂ how hos hn
  unfold stage4 stage5
  iintro ⟨#Hr, Hd, H2, H3, H4, H5, Ho, L7, V0, V1, S2, T3⟩ Hk
  iapply (wp_waits m ρ K c s 2 i (by rw [hi]; simp) hS₀ hR₀ (credit2 s _ iw₂) (credit2 s _ iw₄)) $$ [Hd S2]
  · isplitr; · iexact Hr
    isplitl [Hd] <;> iassumption
  iintro ⟨Hd, V2, P, R⟩
  unfold strip free
  simp only [sendPay, recvPay, holds, free]
  icases Ho with ⟨%f, %hf, Ho⟩
  icases L7 with ⟨%f7, L7⟩
  ihave H6 := (join_quarters m ρ c s) $$ [P R]
  · unfold holds; isplitl [P] <;> iassumption
  icases H6 with ⟨%w, %hw, HL, HR⟩
  have hv := hw.1
  have hw₂ := hw.2
  have hl : on (b := cc0_scratch7) (rS s) (v4 m ρ (pa (pa c s) s) s)
      ((slotH m7 ![s.val, 0, 0] is₄).view.write (Elt F) f7 ((slotH m6 ![s.val, 0, 0] is₃).view.read (Elt F) w) Finset.univ) := by
    rw [pa_pa]; exact land3 s hv
  have X := wp_xfer (k := fun _ => .op (.load m6 (Rect.unit (s := S4x768x384) _ S1x384x384.size i₁).toLoadRect l₁) fun a =>
            .op (.load mO (Rect.unit (s := S1536x1536) _ S384x384.size i₂).toLoadRect l₂) fun _ =>
            .op (.store mO (Rect.unit (s := S1536x1536) _ S384x384.size i₂') (pay a) Finset.univ x₂ y₂) k)
    (Q := Q) m ρ K c s 3 i (by rw [hi]; simp) (pa c s) rfl hS hR (credit3 s is₄) (hsrc := w₅) (hdst := w₆) (hsem := t₁)
    (q := fullShare.left) (fs := w) (fd := f7) ((ofSlot c (b := cc0_scratch6) (rS s) nH).trans (holds_intro c hv))
    ((ofSlot (pa c s) (b := cc0_scratch7) (rS s) nH).trans (holds_intro (pa c s) hl))
  iapply X $$ [HL L7 Hd T3]
  · isplitr; · iexact Hr
    isplitl [HL]; · iapply (toSlot c (b := cc0_scratch6) (rS s) nH) $$ HL
    isplitl [L7]; · iapply (toSlot (pa c s) (b := cc0_scratch7) (rS s) nH) $$ L7
    isplitl [Hd] <;> iassumption
  iintro ⟨Hd, S3⟩
  iapply (wp_ld c 9 (R := rSq s (1 - quar c s)) hw₂ (rSq_sub s _)) $$ HR; iintro HR
  iapply (wp_ld c 2 (R := rQ (half c s) (1 - quar c s) s) (on_self (b := vr 2) _ _) (rQ_sub _ _ s)) $$ Ho; iintro Ho
  iapply (wp_st c 2 (R := rQ (half c s) (1 - quar c s) s) (rQ_sub _ _ s)) $$ Ho; iintro ⟨%g, %hg, Ho⟩
  have hv' : out4 m ρ c s g :=
    ⟨on_congr hf fun i hi => hg.2 i (Finset.disjoint_left.mp (rQ_disj s (ne_sub_fin2 _)) hi), fun j => (hg.1 j).trans (congrFun (hp _) j)⟩
  iapply Hk
  iframe Hd H2 H3 H4 H5 V0 V1 V2 S3
  isplitl [Ho]
  · iexists g; isplitr; · ipureintro; exact hv'
    iexact Ho
  · iexists w; isplitr; · ipureintro; exact hv
    iexact HR

/-- The last exchange is over: the first partner's half goes to the result. -/
theorem part_last {α : Type} {Q : α → sProp 𝕄} {k : PUnit → Prog (TpuEff nD τ sig (Elt F) Λ₀ .tc) α}
    {oo : Fin 2 → Nat} {os : Fin 3 → Nat} (hos : os = ![s.val, 0, 0]) (hoo : oo = oH (1 - half c s) s)
    {pay : Vec F S1x768x384 .bf16 → FVec F S768x384 .f32} (hp : ∀ a, pay a = k0_pay36 a)
    {sS₀ sR₀ : DmaSem sig} (hS₀ : sS₀ = xsem (false, s, 3)) (hR₀ : sR₀ = xsem (true, s, 3))
    {iw₁ iw₂ iw₃ iw₄ is₁ : ∀ a, os a + S1x768x384.size a ≤ S4x768x384.size a} {i₂ i₂' : ∀ a, oo a + S768x384.size a ≤ S1536x1536.size a}
    {w₁ : (slotH m7 os iw₁).view.WordExact} {w₂ : (slotH m6 os iw₂).view.WordExact}
    {w₃ : (slotH m6 os iw₃).view.WordExact} {w₄ : (slotH m7 os iw₄).view.WordExact}
    {l₁ : m7.view.LoadsAt (Rect.unit (s := S4x768x384) os S1x768x384.size is₁).toLoadRect}
    {l₂ : mO.view.LoadsAt (Rect.unit (s := S1536x1536) oo S768x384.size i₂).toLoadRect}
    {x₂ : (mO.access (Rect.unit (s := S1536x1536) oo S768x384.size i₂')).Stores Finset.univ}
    {y₂ : (Finset.univ : Finset S768x384.Idx) = Finset.univ ∨ ∀ a, (Rect.unit (s := S1536x1536) oo S768x384.size i₂').stride a = 1} :
    iprop(records m ρ K ∗ duty c 16 ∗ stage5 m ρ c s)
      ⊢ iprop(((duty c 16 ∗ stage6 m ρ c s) -∗ runs c (k ⟨⟩) Q)
        -∗ runs c (.op (.waitDma2 sS₀ (slotH m7 os iw₁) (slotH m6 os iw₂) w₁ w₂) fun _ =>
            .op (.waitDma2 sR₀ (slotH m6 os iw₃) (slotH m7 os iw₄) w₃ w₄) fun _ =>
            .op (.load m7 (Rect.unit (s := S4x768x384) os S1x768x384.size is₁).toLoadRect l₁) fun a =>
            .op (.load mO (Rect.unit (s := S1536x1536) oo S768x384.size i₂).toLoadRect l₂) fun _ =>
            .op (.store mO (Rect.unit (s := S1536x1536) oo S768x384.size i₂') (pay a) Finset.univ x₂ y₂) k) Q) := by
  subst hoo hos
  unfold stage5 stage6
  iintro ⟨#Hr, Hd, H2, H3, H4, H5, Ho, HR, V0, V1, V2, S3⟩ Hk
  iapply (wp_waits m ρ K c s 3 16 (by simp) hS₀ hR₀ (credit3' s iw₂) (credit3 s iw₄)) $$ [Hd S3]
  · isplitr; · iexact Hr
    isplitl [Hd] <;> iassumption
  iintro ⟨Hd, V3, P, R⟩
  unfold strip free
  simp only [sendPay, recvPay, holds, free]
  icases Ho with ⟨%f, %hf, Ho⟩
  icases R with ⟨%e', %he', R⟩
  ihave H6 := (join_shares c cc0_scratch6 (rS s) (v4 m ρ c s)) $$ [P HR]
  · unfold holds; isplitl [P] <;> iassumption
  unfold free
  iapply (wp_ld c 10 (R := rS s) he' (Finset.Subset.refl _)) $$ R; iintro R
  iapply (wp_ld c 2 (R := rH (1 - half c s) s) (on_self (b := vr 2) _ _) (rH_sub _ s)) $$ Ho; iintro Ho
  iapply (wp_st c 2 (R := rH (1 - half c s) s) (rH_sub _ s)) $$ Ho; iintro ⟨%g, %hg, Ho⟩
  have hd : ∀ q i, i ∈ (rQ (half c s) q s).set → g i = f i := fun q i hi =>
    hg.2 i (Finset.disjoint_left.mp (rQ_rH_disj s (ne_sub_fin2 _)) hi)
  have hv' : out5 m ρ c s g :=
    ⟨⟨on_congr hf.1 (hd _), on_congr hf.2 (hd _)⟩, fun j => (hg.1 j).trans (congrFun (hp _) j)⟩
  iapply Hk
  iframe Hd H2 H3 H4 H5 V0 V1 V2 V3
  isplitl [H6]; · iexact H6
  isplitl [R]; · iexists _; iexact R
  iexists g; isplitr; · ipureintro; exact hv'
  iexact Ho

end Cert.KernelIdeal.Sq

end
-- ==== Proof.Slots.lean ====
/-
# From whole buffers to the streams' parts, and back

At the start a device cuts its buffers into the four streams' slots, keeps some and hands the landing places to its
partners at the barrier; at the end the slots and the strips of the result make whole buffers again.
-/
module

public import proofs.«01_k».proof.Proof.Streams

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Buffer `b` of device `c` whole, whatever it holds. -/
def some' (c : Dev nD) (b : Ref sig .tc) : sProp 𝕄 :=
  iprop(∃ f : Buf (Elt F) ((c : Thread nD τ).loc b), ((c : Thread nD τ).loc b ↦{fullShare} f))

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

section Cut
variable (c : Dev nD) (b : Ref sig .tc) (R : Fin 4 → Rect b.ty.shape)
  (hd : ∀ s s', s ≠ s' → Disjoint (R s).set (R s').set)
  (hc : (Finset.univ : Finset (Fin 4)).biUnion (fun s => (R s).set) = Finset.univ)
include hd hc

theorem cut : some' c b ⊢ (bigSep Finset.univ fun s : Fin 4 => free c b (R s) : sProp 𝕄) := by
  unfold some'
  iintro ⟨%f, H⟩
  have h := pointsTo_biUnion (ℓ := (c : Thread nD τ).loc b) (Ix := Unit) (Name := ℕ) (U := UU) (Lvl := ℕ) (q := fullShare) (f := f)
    (Finset.univ : Finset (Fin 4)) (fun s => (R s).set) (fun s _ s' _ e => hd s s' e)
  rw [hc] at h
  ihave H := (Entails.of_eq h) $$ H
  have hm : (bigSep Finset.univ fun s : Fin 4 => ((c : Thread nD τ).loc b ↦[(R s).set]{fullShare} f : sProp 𝕄))
      ⊢ bigSep Finset.univ fun s : Fin 4 => free c b (R s) := bigSep_mono fun s _ => free_intro c
  iapply hm $$ H

theorem uncut : (bigSep Finset.univ fun s : Fin 4 => free c b (R s) : sProp 𝕄) ⊢ some' c b := by
  have h₁ : (bigSep Finset.univ fun s : Fin 4 => free c b (R s) : sProp 𝕄)
      ⊢ iprop(∃ fs : Fin 4 → Buf (Elt F) ((c : Thread nD τ).loc b), bigSep Finset.univ fun s : Fin 4 => ((c : Thread nD τ).loc b ↦[(R s).set]{fullShare} fs s)) :=
    BI.bigSep_exists_pi _ _
  iintro H
  ihave H := h₁ $$ H
  icases H with ⟨%fs, H⟩
  have h := pointsTo_biUnion_join (ℓ := (c : Thread nD τ).loc b) (Ix := Unit) (Name := ℕ) (U := UU) (Lvl := ℕ) (q := fullShare)
    (Finset.univ : Finset (Fin 4)) (fun s => (R s).set) fs (fs 0) (fun s _ s' _ e => hd s s' e)
  rw [hc] at h
  ihave H := h $$ H
  icases H with ⟨%g, -, H⟩
  unfold some'
  iexists g; iexact H

end Cut

theorem free_strip (c : Dev nD) (s : Fin 4) : (free c cc0_stg2_0 (rStrip s) : sProp 𝕄) ⊢ strip c s (fun _ => True) := by
  unfold free strip
  iintro ⟨%f, H⟩
  iexists f; isplitr; · ipureintro; trivial
  iexact H

/-- Stream by stream, the result buffer cut and put together again. -/
theorem cut_out (c : Dev nD) : some' c cc0_stg2_0 ⊢ (bigSep Finset.univ fun s : Fin 4 => strip c s (fun _ => True) : sProp 𝕄) :=
  (cut c cc0_stg2_0 rStrip (fun _ _ e => rStrip_disj e) rStrip_cover).trans (bigSep_mono fun s _ => free_strip c s)

theorem out5_congr {c : Dev nD} {s : Fin 4} {f g : (cc0_stg2_0 : Ref sig .tc).ty.Contents (Elt F)} (h : out5 m ρ c s f)
    (hg : ∀ i ∈ (rStrip s).set, g i = f i) : out5 m ρ c s g :=
  ⟨⟨on_congr h.1.1 fun i hi => hg i (rQ_sub _ _ _ hi), on_congr h.1.2 fun i hi => hg i (rQ_sub _ _ _ hi)⟩,
    on_congr h.2 fun i hi => hg i (rH_sub _ _ hi)⟩

theorem uncut_out (c : Dev nD) : (bigSep Finset.univ fun s : Fin 4 => strip c s (out5 m ρ c s) : sProp 𝕄)
    ⊢ iprop(∃ f : Buf (Elt F) ((c : Thread nD τ).loc cc0_stg2_0), ⌜∀ s, out5 m ρ c s f⌝ ∗ ((c : Thread nD τ).loc cc0_stg2_0 ↦{fullShare} f)) := by
  have h₁ : (bigSep Finset.univ fun s : Fin 4 => strip c s (out5 m ρ c s) : sProp 𝕄)
      ⊢ iprop(∃ fs : Fin 4 → Buf (Elt F) ((c : Thread nD τ).loc cc0_stg2_0), bigSep Finset.univ fun s : Fin 4 =>
        iprop(⌜out5 m ρ c s (fs s)⌝ ∗ ((c : Thread nD τ).loc cc0_stg2_0 ↦[(rStrip s).set]{fullShare} fs s))) :=
    BI.bigSep_exists_pi _ _
  iintro H
  ihave H := h₁ $$ H
  icases H with ⟨%fs, H⟩
  ihave H := (Entails.of_eq (bigSep_four _)) $$ H
  icases H with ⟨⟨%p0, H0⟩, ⟨%p1, H1⟩, ⟨%p2, H2⟩, ⟨%p3, H3⟩⟩
  have hp : ∀ s, out5 m ρ c s (fs s) := fun s => by fin_cases s <;> assumption
  have h := pointsTo_biUnion_join (ℓ := (c : Thread nD τ).loc cc0_stg2_0) (Ix := Unit) (Name := ℕ) (U := UU) (Lvl := ℕ) (q := fullShare)
    (Finset.univ : Finset (Fin 4)) (fun s => (rStrip s).set) fs (fs 0) (fun s _ s' _ e => rStrip_disj e)
  rw [rStrip_cover] at h
  rw [bigSep_four] at h
  ihave H := h $$ [H0 H1 H2 H3]
  · iframe
  icases H with ⟨%g, %hg, H⟩
  iexists g
  isplitr
  · ipureintro; exact fun s => out5_congr m ρ (hp s) (hg s (Finset.mem_univ s))
  iexact H

/-! ## The landing places -/

theorem landing_pa (x : Dev nD) (s : Fin 4) : landing (F := F) x s (odd s)
    = iprop(free (pa x s) cc0_scratch3 (rS s) ∗ free (pa x s) cc0_scratch7 (rS s)) := if_pos rfl
theorem landing_pb (x : Dev nD) (s : Fin 4) : landing (F := F) x s (!odd s)
    = iprop(free (pb x s) cc0_scratch5 (rT s) ∗ free (pb x s) cc0_scratch6 (rSq s (quar x s))) :=
  if_neg fun h => by cases ho : odd s <;> rw [ho] at h <;> cases h

/-- Two things, one for each partner, as one for the first and one for the second partner of a stream. -/
theorem by_order (s : Fin 4) (Φ : Bool → sProp 𝕄) : iprop(Φ (odd s) ∗ Φ (!odd s)) ⊢ iprop(Φ false ∗ Φ true) := by
  cases odd s
  · exact Entails.rfl
  · exact sep_comm.1
theorem by_order' (s : Fin 4) (Φ : Bool → sProp 𝕄) : iprop(Φ false ∗ Φ true) ⊢ iprop(Φ (odd s) ∗ Φ (!odd s)) := by
  cases odd s
  · exact Entails.rfl
  · exact sep_comm.1

/-- What a device gives up of its own at the barrier for a stream, and what it gets. -/
def given (c : Dev nD) (s : Fin 4) : sProp 𝕄 :=
  iprop(landing (partner c false) s false ∗ landing (partner c true) s true)
def taken (c : Dev nD) (s : Fin 4) : sProp 𝕄 := iprop(landing c s false ∗ landing c s true)

theorem give (c : Dev nD) (s : Fin 4) :
    iprop(free c cc0_scratch3 (rS s) ∗ free c cc0_scratch7 (rS s) ∗ free c cc0_scratch5 (rT s) ∗ free c cc0_scratch6 (rSq s (1 - quar c s)))
      ⊢ (given c s : sProp 𝕄) := by
  have h₁ : landing (F := F) (pa c s) s (odd s) = iprop(free c cc0_scratch3 (rS s) ∗ free c cc0_scratch7 (rS s)) := by
    rw [landing_pa, pa_pa]
  have h₂ : landing (F := F) (pb c s) s (!odd s) = iprop(free c cc0_scratch5 (rT s) ∗ free c cc0_scratch6 (rSq s (1 - quar c s))) := by
    rw [landing_pb, pb_pb, quar_pb]
  refine BIBase.Entails.trans ?_ (by_order s fun d => landing (F := F) (partner c d) s d)
  show _ ⊢ iprop(landing (F := F) (pa c s) s (odd s) ∗ landing (F := F) (pb c s) s (!odd s))
  rw [h₁, h₂]
  iintro ⟨A, B, C, D⟩
  iframe

theorem take (c : Dev nD) (s : Fin 4) : (taken c s : sProp 𝕄)
    ⊢ iprop(free (pa c s) cc0_scratch3 (rS s) ∗ free (pa c s) cc0_scratch7 (rS s) ∗ free (pb c s) cc0_scratch5 (rT s) ∗ free (pb c s) cc0_scratch6 (rSq s (quar c s))) := by
  refine (by_order' s fun d => landing (F := F) c s d).trans ?_
  rw [landing_pa, landing_pb]
  iintro ⟨⟨A, B⟩, ⟨C, D⟩⟩
  iframe

theorem given_all (c : Dev nD) : (bigSep Finset.univ fun s => given (F := F) c s)
    ⊢ iprop(barPay (partner c false) false ∗ barPay (partner c true) true) := Entails.of_eq (bigSep_sep' _ _ _)
theorem taken_all (c : Dev nD) : (bigSep (Finset.univ : Finset Bool) fun d => barPay (F := F) c d)
    ⊢ bigSep Finset.univ fun s => taken (F := F) c s :=
 by
  have h : (bigSep (Finset.univ : Finset Bool) fun d => barPay (F := F) c d) = iprop(barPay c false ∗ barPay c true) :=
    bigSep_univ_eq_bigSepL [false, true] (by decide) (by decide) _
  unfold barPay at h
  rw [← bigSep_sep'] at h
  exact Entails.of_eq h

/-! ## Opening and closing -/

/-- What stays with the device for a stream. -/
def kept (c : Dev nD) (s : Fin 4) : sProp 𝕄 :=
  iprop(free c cc0_scratch2 (rS s) ∗ free c cc0_scratch4 (rT s) ∗ free c cc0_scratch6 (rSq s (quar c s)) ∗ strip c s (fun _ => True))

theorem halve (c : Dev nD) (s : Fin 4) : (free c cc0_scratch6 (rS s) : sProp 𝕄)
    ⊢ iprop(free c cc0_scratch6 (rSq s (quar c s)) ∗ free c cc0_scratch6 (rSq s (1 - quar c s))) := by
  unfold free
  iintro ⟨%f, H⟩
  have h := (pointsTo_union (ℓ := (c : Thread nD τ).loc cc0_scratch6) (q := fullShare) (f := f) (Ix := Unit) (Name := ℕ) (U := UU) (Lvl := ℕ)
    (I := (rSq s (quar c s)).set) (J := (rSq s (1 - quar c s)).set) (rSq_disj s (ne_sub_fin2 _))).1
  rw [rSq_cover] at h
  ihave H := h $$ H
  icases H with ⟨A, B⟩
  isplitl [A]
  · iexists f; iexact A
  · iexists f; iexact B

/-- The six buffers of slots and the result, whole. -/
def bufs (c : Dev nD) : sProp 𝕄 :=
  iprop(some' c cc0_scratch2 ∗ some' c cc0_scratch3 ∗ some' c cc0_scratch4 ∗ some' c cc0_scratch5 ∗ some' c cc0_scratch6 ∗ some' c cc0_scratch7)

theorem share_out (c : Dev nD) (s : Fin 4) :
    iprop(free c cc0_scratch2 (rS s) ∗ free c cc0_scratch3 (rS s) ∗ free c cc0_scratch4 (rT s) ∗ free c cc0_scratch5 (rT s)
        ∗ free c cc0_scratch6 (rS s) ∗ free c cc0_scratch7 (rS s) ∗ strip c s (fun _ => True))
      ⊢ (iprop(kept c s ∗ given c s) : sProp 𝕄) := by
  unfold kept
  iintro ⟨H2, H3, H4, H5, H6, H7, HO⟩
  ihave H6 := (halve c s) $$ H6
  icases H6 with ⟨H6, H6'⟩
  iframe H2 H4 H6 HO
  iapply (give c s)
  iframe

theorem open_up (c : Dev nD) : (iprop(bufs c ∗ some' c cc0_stg2_0) : sProp 𝕄)
    ⊢ iprop((bigSep Finset.univ fun s => kept c s) ∗ barPay (partner c false) false ∗ barPay (partner c true) true) := by
  unfold bufs
  have h : (bigSep Finset.univ fun s : Fin 4 => iprop(free c cc0_scratch2 (rS s) ∗ free c cc0_scratch3 (rS s) ∗ free c cc0_scratch4 (rT s) ∗ free c cc0_scratch5 (rT s)
        ∗ free c cc0_scratch6 (rS s) ∗ free c cc0_scratch7 (rS s) ∗ strip c s (fun _ => True)) : sProp 𝕄)
      ⊢ bigSep Finset.univ fun s => iprop(kept c s ∗ given c s) := bigSep_mono fun s _ => share_out c s
  rw [bigSep_sep', bigSep_sep', bigSep_sep', bigSep_sep', bigSep_sep', bigSep_sep', bigSep_sep'] at h
  iintro ⟨⟨H2, H3, H4, H5, H6, H7⟩, HO⟩
  ihave H2 := (cut c cc0_scratch2 rS (fun _ _ e => rS_disj e) rS_cover) $$ H2
  ihave H3 := (cut c cc0_scratch3 rS (fun _ _ e => rS_disj e) rS_cover) $$ H3
  ihave H4 := (cut c cc0_scratch4 rT (fun _ _ e => rT_disj e) rT_cover) $$ H4
  ihave H5 := (cut c cc0_scratch5 rT (fun _ _ e => rT_disj e) rT_cover) $$ H5
  ihave H6 := (cut c cc0_scratch6 rS (fun _ _ e => rS_disj e) rS_cover) $$ H6
  ihave H7 := (cut c cc0_scratch7 rS (fun _ _ e => rS_disj e) rS_cover) $$ H7
  ihave HO := (cut_out c) $$ HO
  ihave H := h $$ [H2 H3 H4 H5 H6 H7 HO]
  · iframe
  icases H with ⟨HK, HG⟩
  iframe HK
  iapply (given_all c) $$ HG

/-- The exchanges of a stream not begun; all over. -/
def ticks (c : Dev nD) (s : Fin 4) : sProp 𝕄 := iprop(tick c s 0 ∗ tick c s 1 ∗ tick c s 2 ∗ tick c s 3)
def overs (c : Dev nD) (s : Fin 4) : sProp 𝕄 := iprop(over c s 0 ∗ over c s 1 ∗ over c s 2 ∗ over c s 3)

theorem begin_stream (c : Dev nD) (s : Fin 4) : (iprop(kept c s ∗ taken c s ∗ ticks c s) : sProp 𝕄) ⊢ stage0 c s := by
  unfold kept ticks stage0
  iintro ⟨⟨H2, H4, H6, HO⟩, HT, T0, T1, T2, T3⟩
  ihave HT := (take c s) $$ HT
  icases HT with ⟨A, B, C, D⟩
  iframe

theorem begin_all (c : Dev nD) :
    (iprop((bigSep Finset.univ fun s => kept c s) ∗ (bigSep (Finset.univ : Finset Bool) fun d => barPay c d) ∗ (bigSep Finset.univ fun s => ticks c s)) : sProp 𝕄)
      ⊢ bigSep Finset.univ fun s => stage0 c s := by
  have h : (bigSep Finset.univ fun s : Fin 4 => iprop(kept c s ∗ taken c s ∗ ticks c s) : sProp 𝕄)
      ⊢ bigSep Finset.univ fun s => stage0 c s := bigSep_mono fun s _ => begin_stream c s
  rw [bigSep_sep', bigSep_sep'] at h
  iintro ⟨HK, HT, HS⟩
  ihave HT := (taken_all c) $$ HT
  iapply h
  iframe

theorem end_stream (c : Dev nD) (s : Fin 4) : (stage6 m ρ c s : sProp 𝕄)
    ⊢ iprop(free c cc0_scratch2 (rS s) ∗ free c cc0_scratch3 (rS s) ∗ free c cc0_scratch4 (rT s) ∗ free c cc0_scratch5 (rT s)
        ∗ free c cc0_scratch6 (rS s) ∗ free c cc0_scratch7 (rS s) ∗ strip c s (out5 m ρ c s) ∗ overs c s) := by
  unfold stage6 overs; exact Entails.rfl

theorem end_all (c : Dev nD) : (bigSep Finset.univ fun s => stage6 m ρ c s)
    ⊢ iprop(bufs c ∗ (∃ f : Buf (Elt F) ((c : Thread nD τ).loc cc0_stg2_0), ⌜∀ s, out5 m ρ c s f⌝ ∗ ((c : Thread nD τ).loc cc0_stg2_0 ↦{fullShare} f))
        ∗ (bigSep Finset.univ fun s => overs c s)) := by
  unfold bufs
  have h : (bigSep Finset.univ fun s => stage6 m ρ c s) ⊢ bigSep Finset.univ fun s => iprop(free c cc0_scratch2 (rS s) ∗ free c cc0_scratch3 (rS s) ∗ free c cc0_scratch4 (rT s) ∗ free c cc0_scratch5 (rT s)
        ∗ free c cc0_scratch6 (rS s) ∗ free c cc0_scratch7 (rS s) ∗ strip c s (out5 m ρ c s) ∗ overs c s) := bigSep_mono fun s _ => end_stream m ρ c s
  rw [bigSep_sep', bigSep_sep', bigSep_sep', bigSep_sep', bigSep_sep', bigSep_sep', bigSep_sep'] at h
  iintro H
  ihave H := h $$ H
  icases H with ⟨H2, H3, H4, H5, H6, H7, HO, HV⟩
  ihave H2 := (uncut c cc0_scratch2 rS (fun _ _ e => rS_disj e) rS_cover) $$ H2
  ihave H3 := (uncut c cc0_scratch3 rS (fun _ _ e => rS_disj e) rS_cover) $$ H3
  ihave H4 := (uncut c cc0_scratch4 rT (fun _ _ e => rT_disj e) rT_cover) $$ H4
  ihave H5 := (uncut c cc0_scratch5 rT (fun _ _ e => rT_disj e) rT_cover) $$ H5
  ihave H6 := (uncut c cc0_scratch6 rS (fun _ _ e => rS_disj e) rS_cover) $$ H6
  ihave H7 := (uncut c cc0_scratch7 rS (fun _ _ e => rS_disj e) rS_cover) $$ H7
  ihave HO := (uncut_out m ρ c) $$ HO
  iframe

end Cert.KernelIdeal.Sq

end
-- ==== Proof.Opening.lean ====
/-
# The result, and the start of the body

`OUT c` is the whole result device `c` writes: in every stream the quarter it finished itself, the quarter its second
partner finished, and the half its first partner assembled. Then the start of the body: the barrier with both partners
and the rounding of the operands.
-/
module

public import proofs.«01_k».proof.Proof.Slots

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The stream, the half and the quarter an element of the result lies in, and its place there. -/
def strm (i : S1536x1536.Idx) : Fin 4 := ⟨(i 1 : Nat) / 384, by have := (i 1).isLt; simp at this; omega⟩
def inQuarter (i : S1536x1536.Idx) : S384x384.Idx
  | 0 => ⟨(i 0 : Nat) % 384, Nat.mod_lt _ (by decide)⟩
  | 1 => ⟨(i 1 : Nat) % 384, Nat.mod_lt _ (by decide)⟩
def inHalf (i : S1536x1536.Idx) : S768x384.Idx
  | 0 => ⟨(i 0 : Nat) % 768, Nat.mod_lt _ (by decide)⟩
  | 1 => ⟨(i 1 : Nat) % 384, Nat.mod_lt _ (by decide)⟩

def OUT (c : Dev nD) : (cc0_stg2_0 : Ref sig .tc).ty.Contents (Elt F) := fun i =>
  if (i 0 : Nat) / 768 = (half c (strm i)).val then
    if (i 0 : Nat) % 768 / 384 = (quar c (strm i)).val then fin m ρ c (strm i) (inQuarter i)
    else k0_pay32 (v3 m ρ (pb c (strm i)) (strm i)) (inQuarter i)
  else k0_pay36 (v4 m ρ (pa c (strm i)) (strm i)) (inHalf i)

theorem emb_quarter (i : S1536x1536.Idx) (r q : Fin 2) (hr : (i 0 : Nat) / 768 = r.val) (hq : (i 0 : Nat) % 768 / 384 = q.val) :
    (rQ r q (strm i)).emb (inQuarter i) = i := by
  funext a
  refine Fin.ext ?_
  rw [Rect.emb_apply]
  fin_cases a
  · simp [inQuarter, oQ]; omega
  · simp [inQuarter, oQ, strm]; omega
theorem emb_half (i : S1536x1536.Idx) (r : Fin 2) (hr : (i 0 : Nat) / 768 = r.val) : (rH r (strm i)).emb (inHalf i) = i := by
  funext a
  refine Fin.ext ?_
  rw [Rect.emb_apply]
  fin_cases a
  · simp [inHalf, oH]; omega
  · simp [inHalf, oH, strm]; omega

theorem out_unique {c : Dev nD} {f : (cc0_stg2_0 : Ref sig .tc).ty.Contents (Elt F)} (h : ∀ s, out5 m ρ c s f) : f = OUT m ρ c := by
  funext i
  have h0 : (i 0 : Nat) < 1536 := (i 0).isLt
  obtain ⟨⟨h1, h2⟩, h3⟩ := h (strm i)
  unfold OUT
  split
  · next hr =>
    split
    · next hq =>
      have e := h1 (inQuarter i)
      rw [emb_quarter i _ _ hr hq] at e; exact e
    · next hq =>
      have e := h2 (inQuarter i)
      rw [emb_quarter i _ _ hr (by rw [val_sub]; have := f2 (quar c (strm i)); omega)] at e; exact e
  · next hr =>
    have e := h3 (inHalf i)
    rw [emb_half i _ (by rw [val_sub]; have := f2 (half c (strm i)); omega)] at e; exact e

/-! ## The barrier -/

/-- What a device starts from: every cell's records, its own position and its two signals at the barrier, and its exchanges. -/
def ghost (K : Dev nD × Option Xf → ℕ) (c : Dev nD) : sProp 𝕄 :=
  iprop(records m ρ K ∗ atPos ER (barCell c) 0 ∅ 0 ∗ dutyTok ER (barCell (partner c false)) 0 false ∗ dutyTok ER (barCell (partner c true)) 0 true
    ∗ cred (tallyAt (barCell c) () 2) ∗ (bigSep Finset.univ fun s => ticks c s))

theorem part_open (K : Dev nD × Option Xf → ℕ) (c : Dev nD) {α : Type} {Q : α → sProp 𝕄} {k : PUnit → Prog (TpuEff nD τ sig (Elt F) Λ₀ .tc) α}
    {n₁ n₂ : Dev nD} (hn₁ : n₁ = partner c false) (hn₂ : n₂ = partner c true) {k₁ k₂ : ℤ} (hk₁ : k₁ = ((1 : ℕ) : ℤ)) (hk₂ : k₂ = ((2 : ℕ) : ℤ)) (W : Waits sig Unit) :
    iprop(ghost m ρ K c ∗ owes (c : Thread nD τ) (O₀ c) W ∗ bufs c ∗ some' c cc0_stg2_0)
      ⊢ iprop(((records m ρ K ∗ duty c 0 ∗ semVal (barCell c) 0 ∗ (bigSep Finset.univ fun s => stage0 c s)) -∗ runs c (k ⟨⟩) Q)
        -∗ runs c (.op (.semSignal (Dev.tc n₁ : Thread nD τ) barrier0 k₁) fun _ => .op (.semSignal (Dev.tc n₂ : Thread nD τ) barrier0 k₁) fun _ =>
            .op (.semWait barrier0 k₂) k) Q) := by
  subst hn₁ hn₂ hk₁ hk₂
  unfold ghost
  iintro ⟨⟨#Hr, Hp, Ht1, Ht2, Hc, HT⟩, HO, HB, Hout⟩ Hk
  ihave HS := (open_up c) $$ [HB Hout]
  · iframe
  icases HS with ⟨HK, HP1, HP2⟩
  ihave #I0 := (records_inv m ρ K (c, none)) $$ Hr
  ihave #I1 := (records_inv m ρ K (partner c false, none)) $$ Hr
  ihave #I2 := (records_inv m ρ K (partner c true, none)) $$ Hr
  ihave #R1 := (records_reached m ρ K (partner c false, none)) $$ Hr
  ihave #R2 := (records_reached m ρ K (partner c true, none)) $$ Hr
  ihave #Hlev := (records_lev m ρ K) $$ Hr
  iapply (Rounds.wp_signal 𝒱₀ ER (rd m ρ) (c : Thread nD τ) none (dst := (partner c false : Thread nD τ)) (κ := K (partner c false, none))
      (d := false) (by rw [duties_bar]; exact Finset.mem_univ _) (amount_bar m ρ (partner c false) false) ()
      (owedFrom c 0 + tallyAt (barCell (partner c true)) () 1) rfl) $$ [HO Ht1 HP1]
  · isplitr; · iexact I1
    isplitl [HO]; · iexact HO
    isplitl [Ht1]; · iexact Ht1
    isplitl [HP1]; · rw [payload_bar]; iexact HP1
    iexact R1
  iintro HO
  iapply (Rounds.wp_signal 𝒱₀ ER (rd m ρ) (c : Thread nD τ) none (dst := (partner c true : Thread nD τ)) (κ := K (partner c true, none))
      (d := true) (by rw [duties_bar]; exact Finset.mem_univ _) (amount_bar m ρ (partner c true) true) () (owedFrom c 0) rfl) $$ [HO Ht2 HP2]
  · isplitr; · iexact I2
    isplitl [HO]; · iexact HO
    isplitl [Ht2]; · iexact Ht2
    isplitl [HP2]; · rw [payload_bar]; iexact HP2
    iexact R2
  iintro HO
  iapply (Rounds.wp_wait_rest_token 𝒱₀ ER (rd m ρ) (c : Thread nD τ) none (κ := K (c, none))
      (wpE_semWait_eq 𝒱₀ (c : Thread nD τ) none Set.univ) (Set.mem_univ _) () (O := owedFrom c 0) (W := W) (R := 0) (m := 0) (T := ∅)
      (by rw [expect_bar])) $$ [Hc HO Hp]
  · isplitr; · iexact I0
    isplitl [Hc]; · iexact Hc
    isplitl [HO]; · iexact HO
    isplitr; · iapply (mayWait_owed c _ 0 1 (le_of_eq (lv_bar c)) (by omega)); iexact Hlev
    iexact Hp
  iintro ⟨HO, Hp, -, Hpay⟩
  ihave Hpay := (Entails.of_eq (rest_bar m ρ c)) $$ Hpay
  imod (Rounds.cell_close ER (rd m ρ) (Set.mem_univ (K (c, none))) (fun h => h) (R := 0 + 1) (duties_later m ρ (barCell c))) $$ [Hp] with Hz
  · isplitr; · iexact I0
    iexact Hp
  iapply Hk
  isplitr; · iexact Hr
  isplitl [HO]; · unfold duty; iexists _; iexact HO
  isplitl [Hz]; · iexact Hz
  iapply (begin_all c)
  iframe

/-! ## The operands -/

abbrev wA : Rect S1536x768 := Rect.unit (s := S1536x768) ![0, 0] S1536x768.size inb_S1536x768_S1536x768_0_0
abbrev wB : Rect S768x1536 := Rect.unit (s := S768x1536) ![0, 0] S768x1536.size inb_S768x1536_S768x1536_0_0
theorem emb_wA (j : S1536x768.Idx) : wA.emb j = j := by
  funext a; refine Fin.ext ?_; rw [Rect.emb_apply]; fin_cases a <;> simp
theorem emb_wB (j : S768x1536.Idx) : wB.emb j = j := by
  funext a; refine Fin.ext ?_; rw [Rect.emb_apply]; fin_cases a <;> simp

abbrev mX : Memref sig .tc .vmem S1536x768 .f32 := Memref.whole cc0_stg0_0
abbrev mY : Memref sig .tc .vmem S768x1536 .f32 := Memref.whole cc0_stg1_0

/-- The operands staged. -/
def staged (c : Dev nD) : sProp 𝕄 :=
  iprop(((c : Thread nD τ).loc cc0_stg0_0 ↦{fullShare} xA m ρ c) ∗ ((c : Thread nD τ).loc cc0_stg1_0 ↦{fullShare} xB m ρ c))

theorem part_operands (c : Dev nD) {α : Type} {Q : α → sProp 𝕄} {k : PUnit → Prog (TpuEff nD τ sig (Elt F) Λ₀ .tc) α}
    {l₁ : mX.view.LoadsAt wA.toLoadRect} {l₂ : mA.view.LoadsAt wA.toLoadRect} {x₁ : (mA.access wA).Stores Finset.univ}
    {y₁ : (Finset.univ : Finset S1536x768.Idx) = Finset.univ ∨ ∀ a, wA.stride a = 1}
    {l₃ : mY.view.LoadsAt wB.toLoadRect} {l₄ : mB.view.LoadsAt wB.toLoadRect} {x₂ : (mB.access wB).Stores Finset.univ}
    {y₂ : (Finset.univ : Finset S768x1536.Idx) = Finset.univ ∨ ∀ a, wB.stride a = 1} :
    iprop(staged m ρ c ∗ some' c cc0_scratch0 ∗ some' c cc0_scratch1)
      ⊢ iprop(((staged m ρ c ∗ mats m ρ c) -∗ runs c (k ⟨⟩) Q)
        -∗ runs c (.op (.load mX wA.toLoadRect l₁) fun a => .op (.load mA wA.toLoadRect l₂) fun _ => .op (.store mA wA (k0_pay2 a) Finset.univ x₁ y₁) fun _ =>
            .op (.load mY wB.toLoadRect l₃) fun b => .op (.load mB wB.toLoadRect l₄) fun _ => .op (.store mB wB (k0_pay3 b) Finset.univ x₂ y₂) k) Q) := by
  unfold staged some' mats
  iintro ⟨⟨HX, HY⟩, ⟨%f, HA⟩, ⟨%g, HB⟩⟩ Hk
  iapply (wp_ld c 0 (R := wA) (v := xA m ρ c) (fun j => congrArg (xA m ρ c) (emb_wA j)) (Finset.subset_univ _)) $$ HX; iintro HX
  iapply (wp_ld c 3 (R := wA) (on_self (b := vr 3) _ _) (Finset.subset_univ _)) $$ HA; iintro HA
  iapply (wp_st c 3 (R := wA) (Finset.subset_univ _)) $$ HA; iintro ⟨%f', %hf, HA⟩
  iapply (wp_ld c 1 (R := wB) (v := xB m ρ c) (fun j => congrArg (xB m ρ c) (emb_wB j)) (Finset.subset_univ _)) $$ HY; iintro HY
  iapply (wp_ld c 4 (R := wB) (on_self (b := vr 4) _ _) (Finset.subset_univ _)) $$ HB; iintro HB
  iapply (wp_st c 4 (R := wB) (Finset.subset_univ _)) $$ HB; iintro ⟨%g', %hg, HB⟩
  iapply Hk
  isplitl [HX HY]
  · isplitl [HX] <;> iassumption
  isplitl [HA]
  · iexists f'; isplitr
    · ipureintro; exact funext fun j => (congrArg f' (emb_wA j)).symm.trans (hf.1 j)
    iexact HA
  · iexists g'; isplitr
    · ipureintro; exact funext fun j => (congrArg g' (emb_wB j)).symm.trans (hg.1 j)
    iexact HB

end Cert.KernelIdeal.Sq

end
-- ==== Proof.Body.lean ====
/-
# The body, from the barrier to the result

The program of one device, run part by part: each part is one application of the theorem for its kind, at its stream.
-/
module

public import proofs.«01_k».proof.Proof.Opening

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The body at the buffers and semaphores the pipeline calls it with. -/
abbrev prog : Prog (TpuEff nD τ sig (Elt F) Λ₀ .tc) PUnit :=
  cc0_body mX (Memref.isWhole_whole _) mY (Memref.isWhole_whole _) mO (Memref.isWhole_whole _) mA (Memref.isWhole_whole _) mB (Memref.isWhole_whole _)
    m2 (Memref.isWhole_whole _) m3 (Memref.isWhole_whole _) m4 (Memref.isWhole_whole _) m5 (Memref.isWhole_whole _) m6 (Memref.isWhole_whole _)
    m7 (Memref.isWhole_whole _) cc0_scratch8 cc0_scratch9

/-- What the device holds at the end. -/
def ending (c : Dev nD) : sProp 𝕄 :=
  iprop(duty c 16 ∗ semVal (barCell c) 0 ∗ staged m ρ c ∗ mats m ρ c ∗ bufs c
    ∗ (∃ f : Buf (Elt F) ((c : Thread nD τ).loc cc0_stg2_0), ⌜∀ s, out5 m ρ c s f⌝ ∗ ((c : Thread nD τ).loc cc0_stg2_0 ↦{fullShare} f))
    ∗ (bigSep Finset.univ fun s => overs c s))

set_option maxHeartbeats 4000000 in
set_option maxRecDepth 20000 in
theorem run_body (K : Dev nD × Option Xf → ℕ) (c : Dev nD) (Q : PUnit → sProp 𝕄) (W : Waits sig Unit) :
    iprop(ghost m ρ K c ∗ owes (c : Thread nD τ) (O₀ c) W ∗ staged m ρ c ∗ some' c cc0_scratch0 ∗ some' c cc0_scratch1 ∗ bufs c ∗ some' c cc0_stg2_0)
      ⊢ iprop((ending m ρ c -∗ Q ⟨⟩) -∗ runs c prog Q) := by
  unfold prog
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel
  simp only [semSignalWord, semWaitWord, Prog.lift, Prog.bind_op, Prog.bind_ret, Prog.pure_eq_ret, wp_deviceId]
  iintro ⟨HG, HO, HX, HA, HB, Hb, Hout⟩ Hk
  iapply (part_open m ρ K c (dev1_eq c) (dev2_eq c) rfl rfl W) $$ [HG HO Hb Hout]
  · iframe
  iintro ⟨#Hr, Hd, Hz, HS⟩
  iapply (part_operands m ρ c) $$ [HX HA HB]
  · iframe
  iintro ⟨HX, HM⟩
  ihave HS := (Entails.of_eq (bigSep_four fun s => stage0 c s)) $$ HS
  icases HS with ⟨H0, H1, H2, H3⟩
  iapply (part_send m ρ K c 0 (i := 0) rfl (off1_eq0 c) rfl rfl (fun _ _ => rfl) (dev3_eq c) rfl rfl) $$ [Hd HM H0]
  · iframe
    iexact Hr
  iintro ⟨Hd, HM, H0⟩
  iapply (part_send m ρ K c 1 (i := 1) rfl (off2_eq1 c) rfl rfl (fun _ _ => rfl) (dev4_eq c) rfl rfl) $$ [Hd HM H1]
  · iframe
    iexact Hr
  iintro ⟨Hd, HM, H1⟩
  iapply (part_send m ρ K c 2 (i := 2) rfl (off1_eq2 c) rfl rfl (fun _ _ => rfl) (dev5_eq c) rfl rfl) $$ [Hd HM H2]
  · iframe
    iexact Hr
  iintro ⟨Hd, HM, H2⟩
  iapply (part_send m ρ K c 3 (i := 3) rfl (off2_eq3 c) rfl rfl (fun _ _ => rfl) (dev6_eq c) rfl rfl) $$ [Hd HM H3]
  · iframe
    iexact Hr
  iintro ⟨Hd, HM, H3⟩
  iapply (part_own m ρ c 0 (off3_eq0 c) rfl (off4_eq c) (fun _ _ => rfl)) $$ [HM H0]
  · iframe
  iintro ⟨HM, H0⟩
  iapply (part_own m ρ c 1 (off5_eq1 c) rfl (off6_eq c) (fun _ _ => rfl)) $$ [HM H1]
  · iframe
  iintro ⟨HM, H1⟩
  iapply (part_own m ρ c 2 (off3_eq2 c) rfl (off7_eq c) (fun _ _ => rfl)) $$ [HM H2]
  · iframe
  iintro ⟨HM, H2⟩
  iapply (part_own m ρ c 3 (off5_eq3 c) rfl (off8_eq c) (fun _ _ => rfl)) $$ [HM H3]
  · iframe
  iintro ⟨HM, H3⟩
  iapply (part_sum m ρ K c 0 (i := 4) rfl (off9_eq c) (off10_eq c) (off11_eq c) (off12_eq c) rfl (fun _ _ => rfl) (fun _ _ => rfl) (dev7_eq c) rfl rfl rfl rfl) $$ [Hd H0]
  · iframe
    iexact Hr
  iintro ⟨Hd, H0⟩
  iapply (part_sum m ρ K c 1 (i := 5) rfl (off13_eq c) (off14_eq c) (off15_eq c) (off16_eq c) rfl (fun _ _ => rfl) (fun _ _ => rfl) (dev8_eq c) rfl rfl rfl rfl) $$ [Hd H1]
  · iframe
    iexact Hr
  iintro ⟨Hd, H1⟩
  iapply (part_sum m ρ K c 2 (i := 6) rfl (off17_eq c) (off18_eq c) (off19_eq c) (off20_eq c) rfl (fun _ _ => rfl) (fun _ _ => rfl) (dev9_eq c) rfl rfl rfl rfl) $$ [Hd H2]
  · iframe
    iexact Hr
  iintro ⟨Hd, H2⟩
  iapply (part_sum m ρ K c 3 (i := 7) rfl (off21_eq c) (off22_eq c) (off23_eq c) (off24_eq c) rfl (fun _ _ => rfl) (fun _ _ => rfl) (dev10_eq c) rfl rfl rfl rfl) $$ [Hd H3]
  · iframe
    iexact Hr
  iintro ⟨Hd, H3⟩
  iapply (part_fin m ρ K c 0 (i := 8) rfl (off11_eq c) (off12_eq c) (off25_eq c) rfl (fun _ _ => rfl) (fun _ _ => rfl) (dev11_eq c) rfl rfl rfl rfl) $$ [Hd H0]
  · iframe
    iexact Hr
  iintro ⟨Hd, H0⟩
  iapply (part_fin m ρ K c 1 (i := 9) rfl (off15_eq c) (off16_eq c) (off26_eq c) rfl (fun _ _ => rfl) (fun _ _ => rfl) (dev12_eq c) rfl rfl rfl rfl) $$ [Hd H1]
  · iframe
    iexact Hr
  iintro ⟨Hd, H1⟩
  iapply (part_fin m ρ K c 2 (i := 10) rfl (off19_eq c) (off20_eq c) (off27_eq c) rfl (fun _ _ => rfl) (fun _ _ => rfl) (dev13_eq c) rfl rfl rfl rfl) $$ [Hd H2]
  · iframe
    iexact Hr
  iintro ⟨Hd, H2⟩
  iapply (part_fin m ρ K c 3 (i := 11) rfl (off23_eq c) (off24_eq c) (off28_eq c) rfl (fun _ _ => rfl) (fun _ _ => rfl) (dev14_eq c) rfl rfl rfl rfl) $$ [Hd H3]
  · iframe
    iexact Hr
  iintro ⟨Hd, H3⟩
  iapply (part_half m ρ K c 0 (i := 12) rfl (off25_eq c) rfl (off10_eq c) (off9_eq c) (fun _ => rfl) (dev15_eq c) rfl rfl rfl rfl) $$ [Hd H0]
  · iframe
    iexact Hr
  iintro ⟨Hd, H0⟩
  iapply (part_half m ρ K c 1 (i := 13) rfl (off26_eq c) rfl (off14_eq c) (off13_eq c) (fun _ => rfl) (dev16_eq c) rfl rfl rfl rfl) $$ [Hd H1]
  · iframe
    iexact Hr
  iintro ⟨Hd, H1⟩
  iapply (part_half m ρ K c 2 (i := 14) rfl (off27_eq c) rfl (off18_eq c) (off17_eq c) (fun _ => rfl) (dev17_eq c) rfl rfl rfl rfl) $$ [Hd H2]
  · iframe
    iexact Hr
  iintro ⟨Hd, H2⟩
  iapply (part_half m ρ K c 3 (i := 15) rfl (off28_eq c) rfl (off22_eq c) (off21_eq c) (fun _ => rfl) (dev18_eq c) rfl rfl rfl rfl) $$ [Hd H3]
  · iframe
    iexact Hr
  iintro ⟨Hd, H3⟩
  iapply (part_last m ρ K c 0 rfl (off29_eq c) (fun _ => rfl) rfl rfl) $$ [Hd H0]
  · iframe
    iexact Hr
  iintro ⟨Hd, H0⟩
  iapply (part_last m ρ K c 1 rfl (off30_eq c) (fun _ => rfl) rfl rfl) $$ [Hd H1]
  · iframe
    iexact Hr
  iintro ⟨Hd, H1⟩
  iapply (part_last m ρ K c 2 rfl (off31_eq c) (fun _ => rfl) rfl rfl) $$ [Hd H2]
  · iframe
    iexact Hr
  iintro ⟨Hd, H2⟩
  iapply (part_last m ρ K c 3 rfl (off32_eq c) (fun _ => rfl) rfl rfl) $$ [Hd H3]
  · iframe
    iexact Hr
  iintro ⟨Hd, H3⟩
  unfold runs; rw [wp_ret]; imodintro
  iapply Hk
  unfold ending
  iframe Hd Hz HX HM
  iapply (end_all m ρ c)
  iapply (Entails.of_eq (bigSep_four fun s => stage6 m ρ c s).symm)
  iframe

end Cert.KernelIdeal.Sq

end
-- ==== Proof.Pipe.lean ====
/-
# The body as the pipeline's obligation

The one grid point of the kernel: what the pipeline stages before it and what it finds after it.
-/
module

public import proofs.«01_k».proof.Proof.Body
public import proofs.«01_k».proof.Proof.Gen.KernelIdeal.Points

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (ρ : Dev nD → PrngReg)

theorem one_point : cfg0.N = 1 := by decide
def t₀ : Fin cfg0.N := ⟨0, by rw [one_point]; decide⟩
theorem only (t : Fin cfg0.N) : t = t₀ := by
  obtain ⟨t, ht⟩ := t; have := one_point; exact Fin.ext (by simp only [t₀]; omega)

/-- Before the point: the ghost state, and the scratch buffers whatever they hold. -/
def start (c : Dev nD) : sProp 𝕄 := iprop(∃ K, ghost m ρ K c)
def Φ₀ (c : Dev nD) : sProp 𝕄 := iprop(start m ρ c ∗ some' c cc0_scratch0 ∗ some' c cc0_scratch1 ∗ bufs c)
/-- After it: the scratch buffers, and every semaphore of the exchange back at zero. -/
def Φ₁ (c : Dev nD) : sProp 𝕄 :=
  iprop(semVal (barCell c) 0 ∗ (bigSep Finset.univ fun s => overs c s) ∗ some' c cc0_scratch0 ∗ some' c cc0_scratch1 ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => xB m ρ c
    | ⟨2, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem over_windows (Φ : Fin cfg0.W → sProp 𝕄) : bigSep Finset.univ Φ = iprop(Φ (0 : Fin 3) ∗ Φ (1 : Fin 3) ∗ Φ (2 : Fin 3)) := bigSep_W0 Φ

/-- A buffer held whole at given contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def post (c : Dev nD) : sProp 𝕄 :=
  iprop(Φ₁ c ∗ (dats m ρ 0 c).owesAt () t₀.succ
    ∗ stg c cc0_stg0_0 (xA m ρ c) ∗ stg c cc0_stg1_0 (xB m ρ c) ∗ stg c cc0_stg2_0 (OUT m ρ c))

theorem before_x (c : Dev nD) (d) : (dats m ρ 0 c).before (0 : Fin 3) t₀ d = xA m ρ c := by
  unfold Dat.before; rw [if_pos (fetch0_0 t₀)]; rfl
theorem before_y (c : Dev nD) (d) : (dats m ρ 0 c).before (1 : Fin 3) t₀ d = xB m ρ c := by
  unfold Dat.before; rw [if_pos (fetch0_1 t₀)]; rfl

theorem ending_post (c : Dev nD) : ending m ρ c ⊢ post m ρ c := by
  unfold ending post Φ₁ duty staged mats Dat.owesAt Pipeline.owesWithin some'
  rw [show (dats m ρ 0 c).owed t₀.succ = 0 from rfl, owedFrom_end]
  iintro ⟨⟨%W, HO⟩, Hz, ⟨HX, HY⟩, ⟨⟨%f, -, HA⟩, ⟨%g, -, HB⟩⟩, Hb, ⟨%o, %ho, Hout⟩, HV⟩
  isplitl [Hz HA HB Hb HV]
  · iframe Hz HV Hb
    isplitl [HA]
    · iexists f; iexact HA
    · iexists g; iexact HB
  isplitl [HO]
  · iexists W
    isplitr; · ipureintro; exact fun _ _ => Or.inl trivial
    iexact HO
  isplitl [HX]
  · iexists _; isplitr; · ipureintro; rfl
    iexact HX
  isplitl [HY]
  · iexists _; isplitr; · ipureintro; rfl
    iexact HY
  iexists o
  isplitr; · ipureintro; exact out_unique m ρ ho
  iexact Hout

theorem run_point (c : Dev nD) : pre m ρ c ⊢ runs c prog (fun _ => post m ρ c) := by
  unfold pre Φ₀ start Dat.owesAt Pipeline.owesWithin
  rw [show (dats m ρ 0 c).owed t₀.castSucc = O₀ c from rfl]
  iintro ⟨⟨⟨%K, HG⟩, HA, HB, Hb⟩, ⟨%W, %hW, HO⟩, ⟨%d0, %g0, %hg0, HX⟩, ⟨%d1, %g1, %hg1, HY⟩, ⟨%d2, %g2, %hg2, Hout⟩⟩
  rw [before_x] at hg0
  rw [before_y] at hg1
  subst hg0 hg1
  iapply (run_body m ρ K c (fun _ => post m ρ c) W) $$ [HG HO HX HY HA HB Hb Hout]
  · iframe HG HO HA HB Hb
    isplitl [HX HY]
    · unfold staged; isplitl [HX] <;> iassumption
    unfold some'; iexists g2; iexact Hout
  iintro H
  iapply (ending_post m ρ c) $$ H

set_option maxRecDepth 8000 in
/-- The pipeline's obligation on device `c`. -/
theorem obligation (c : Dev nD) : BodyObligation (dats (F := F) m ρ 0 c) (defs₀ (F := F)) 𝒱₀ () Set.univ := fun t => by
  rw [only t, over_windows, over_windows]
  simp only [owns_whole]
  exact run_point m ρ c

end Cert.KernelIdeal.Sq

end
-- ==== Proof.Deal.lean ====
/-
# What the launch deals each device

Every cell of every device gets its invariant; a device keeps its own positions and receives the tokens of the duties
it pays: its sends', its partners' landings' and its partners' barriers'.
-/
module

public import proofs.«01_k».proof.Proof.Pipe

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Sums over the cells of a device -/

theorem over_cells (Φ : Option Xf → sProp 𝕄) : bigSep Finset.univ Φ = iprop(Φ none ∗ bigSep Finset.univ fun x : Xf => Φ (some x)) := by
  have h : (Finset.univ : Finset (Option Xf)).erase none = Finset.univ.map Function.Embedding.some := by
    ext k; cases k <;> simp
  rw [bigSep_univ_at Φ none, h, BI.bigSep_map]; rfl

theorem over_xf (Φ : Xf → sProp 𝕄) : bigSep Finset.univ Φ
    = bigSep Finset.univ fun s : Fin 4 => bigSep Finset.univ fun ph : Fin 4 => iprop(Φ (false, s, ph) ∗ Φ (true, s, ph)) := by
  have h (b : Bool) : bigSep Finset.univ (fun y : Fin 4 × Fin 4 => Φ (b, y))
      = bigSep Finset.univ fun s : Fin 4 => bigSep Finset.univ fun ph : Fin 4 => Φ (b, s, ph) := by rw [BI.bigSep_univ_prod]
  rw [BI.bigSep_univ_prod, bigSep_univ_eq_bigSepL [false, true] (by decide) (by decide)]
  show iprop(bigSep Finset.univ (fun y : Fin 4 × Fin 4 => Φ (false, y)) ∗ bigSep Finset.univ (fun y : Fin 4 × Fin 4 => Φ (true, y))) = _
  rw [h, h, ← bigSep_sep']
  exact bigSep_congr fun s _ => (bigSep_sep' _ _ _).symm

/-! ## The tokens -/

/-- Which duty: of a barrier, one of two; of a transfer, its one. -/
abbrev Job : Type := Bool ⊕ Xf
def jobAt : Job → Option Xf × Bool
  | .inl d => (none, d)
  | .inr x => (some x, false)
theorem jobAt_injective : Function.Injective jobAt := by
  rintro (d | x) (d' | x') h
  · exact congrArg _ (congrArg Prod.snd h)
  · cases h
  · cases h
  · exact congrArg _ (Option.some.inj (congrArg Prod.fst h))
def tokOf (cj : Dev nD × Job) : GSem nD τ sig × ℕ × Bool := (kcell (cj.1, (jobAt cj.2).1), 0, (jobAt cj.2).2)
theorem tokOf_injective : Function.Injective tokOf := by
  rintro ⟨c, j⟩ ⟨c', j'⟩ h
  have h1 := kcell_injective (congrArg Prod.fst h)
  have h2 : (jobAt j).2 = (jobAt j').2 := congrArg (fun x : GSem nD τ sig × ℕ × Bool => x.2.2) h
  have h3 : c = c' := congrArg Prod.fst h1
  have h4 : j = j' := jobAt_injective (Prod.ext (congrArg Prod.snd h1) h2)
  rw [h3, h4]

def cellsOf : Finset (GSem nD τ sig) := Finset.univ.map ⟨kcell, kcell_injective⟩
def toksOf : Finset (GSem nD τ sig × ℕ × Bool) := Finset.univ.map ⟨tokOf, tokOf_injective⟩
def u₀ : UU := (initOf (Pipeline.cells cfgs cellOf_inj) (Pipeline.launchToks cfgs cellOf_inj), initOf cellsOf toksOf)

def tok (c : Dev nD) (j : Job) : sProp 𝕄 := dutyTok ER (tokOf (c, j)).1 (tokOf (c, j)).2.1 (tokOf (c, j)).2.2

/-- On which device duty `j` that device `c` pays falls. -/
def falls (c : Dev nD) : Job → Dev nD
  | .inl d => partner c d
  | .inr x => if x.1 then peer c x.2.1 x.2.2 else c
theorem falls_falls (c : Dev nD) (j : Job) : falls (falls c j) j = c := by
  rcases j with d | ⟨_ | _, s, ph⟩
  · exact partner_partner c d
  · rfl
  · exact peer_peer c s ph
def swap : Dev nD × Job ≃ Dev nD × Job :=
  ⟨fun p => (falls p.1 p.2, p.2), fun p => (falls p.1 p.2, p.2), fun p => Prod.ext (falls_falls _ _) rfl, fun p => Prod.ext (falls_falls _ _) rfl⟩

/-- Tokens minted with their cells go to the devices that pay. -/
theorem toks_go : (bigSep Finset.univ fun c : Dev nD => bigSep Finset.univ fun j : Job => (tok c j : sProp 𝕄))
    = bigSep Finset.univ fun c : Dev nD => bigSep Finset.univ fun j : Job => tok (falls c j) j := by
  rw [← BI.bigSep_univ_prod (fun p : Dev nD × Job => (tok p.1 p.2 : sProp 𝕄)), BI.bigSep_univ_equiv swap, BI.bigSep_univ_prod]; rfl

theorem pay_split (c : Dev nD) : (bigSep Finset.univ fun j : Job => (tok (falls c j) j : sProp 𝕄))
    ⊢ iprop((dutyTok ER (barCell (partner c false)) 0 false ∗ dutyTok ER (barCell (partner c true)) 0 true)
        ∗ bigSep Finset.univ fun s : Fin 4 => bigSep Finset.univ fun ph : Fin 4 =>
            iprop(dutyTok ER (sendCell c s ph) 0 false ∗ dutyTok ER (recvCell (peer c s ph) s ph) 0 false)) := by
  have h : (bigSep Finset.univ fun j : Job => (tok (falls c j) j : sProp 𝕄))
      = iprop((bigSep Finset.univ fun d : Bool => tok (falls c (.inl d)) (.inl d)) ∗ bigSep Finset.univ fun x : Xf => tok (falls c (.inr x)) (.inr x)) :=
    BI.bigSep_univ_sum _
  rw [h, over_xf, bigSep_univ_eq_bigSepL [false, true] (by decide) (by decide)]
  exact Entails.rfl

/-! ## One device's share -/

/-- What the launch element deals device `c`. -/
def G (c : Dev nD) : sProp 𝕄 :=
  iprop((bigSep Finset.univ fun k : Option Xf => roundState ER (rd m ρ) (kcell (c, k)) 0)
    ∗ (bigSep Finset.univ fun k : Option Xf => iprop(atPos ER (kcell (c, k)) 0 ∅ 0 ∗ reached ER (kcell (c, k)) 0))
    ∗ bigSep Finset.univ fun j : Job => tok c j)

theorem fund_cells : BI.own (ER (initOf cellsOf toksOf)) ⊢ (|==> bigSep Finset.univ (G m ρ) : sProp 𝕄) := by
  have hX (Φ : GSem nD τ sig → sProp 𝕄) : bigSep cellsOf Φ = bigSep Finset.univ fun c : Dev nD => bigSep Finset.univ fun k : Option Xf => Φ (kcell (c, k)) := by
    unfold cellsOf; rw [BI.bigSep_map, BI.bigSep_univ_prod]; rfl
  have hT : bigSep toksOf (fun x => (dutyTok ER x.1 x.2.1 x.2.2 : sProp 𝕄)) = bigSep Finset.univ fun c : Dev nD => bigSep Finset.univ fun j : Job => tok c j := by
    unfold toksOf; rw [BI.bigSep_map, BI.bigSep_univ_prod]; rfl
  iintro HX
  imod (Rounds.fund ER (rd m ρ) cellsOf toksOf) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

theorem unscoped_bar (c : Dev nD) : (unscopedSems0 c : sProp 𝕄) = semVal (barCell c) 0 := by
  unfold unscopedSems0; rw [bigSep_eq_bigSepL_of_eq [SemLoc.reg barrier0] (by decide) (by decide)]; rfl
abbrev ownZero (c : Dev nD) : sProp 𝕄 := Pipeline.ownSems0 (Ix := Unit) (Name := ℕ) (U := UU) (Lvl := ℕ) (Val := Elt F) (τ := τ) osem c
theorem own_overs (c : Dev nD) : (ownZero c : sProp 𝕄) = bigSep Finset.univ fun s => overs c s := by
  have h : (ownZero c : sProp 𝕄) = bigSep Finset.univ fun x : Xf => semVal ((c : Thread nD τ), osem x) 0 := rfl
  rw [h, over_xf]
  exact bigSep_congr fun s _ => by rw [bigSep_four]; rfl
theorem all_zero (c : Dev nD) : iprop(ownZero c ∗ unscopedSems0 c) ⊢ (bigSep Finset.univ fun k : Option Xf => semVal (kcell (c, k)) 0 : sProp 𝕄) := by
  rw [unscoped_bar, over_cells]
  iintro ⟨H, HB⟩
  isplitl [HB]; · iexact HB
  have h : (ownZero c : sProp 𝕄) ⊢ bigSep Finset.univ fun x : Xf => semVal (kcell (c, some x)) 0 := Entails.rfl
  iapply h $$ H

theorem make_cells (c : Dev nD) : iprop(ownZero c ∗ unscopedSems0 c ∗ G m ρ c)
    ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ bigSep Finset.univ fun j : Job => tok c j) := by
  have h : (bigSep Finset.univ fun k : Option Xf => iprop(semVal (kcell (c, k)) 0 ∗ roundState ER (rd m ρ) (kcell (c, k)) 0) : sProp 𝕄)
      ⊢ |={Set.univ}=> bigSep Finset.univ fun k => iprop(∃ κ : ℕ, cellInv ER (rd m ρ) κ (kcell (c, k))) :=
    (bigSep_mono fun k _ => (Rounds.body_intro ER (rd m ρ) (kcell (c, k))).trans inv_alloc).trans (bigSep_fupd _ _)
  rw [bigSep_sep'] at h
  unfold G
  iintro ⟨Hos, Hus, Hst, Hat, Htok⟩
  ihave Hv := (all_zero (F := F) c) $$ [Hos Hus]
  · iframe
  imod h $$ [Hv Hst] with Hinv
  · iframe
  imodintro
  iframe

/-! ## Dealing -/

/-- The invariants of all cells, without the levels. -/
def known (K : Dev nD × Option Xf → ℕ) : sProp 𝕄 :=
  iprop((bigSep Finset.univ fun ck => cellInv ER (rd m ρ) (K ck) (kcell ck)) ∗ (bigSep Finset.univ fun ck => reached ER (kcell ck) 0))
instance known_persistent (K : Dev nD × Option Xf → ℕ) : BI.Persistent (known m ρ K) := by unfold known; infer_instance

/-- What stays with device `c`: its positions, and the tokens of the duties it pays. -/
def mine (c : Dev nD) : sProp 𝕄 :=
  iprop((bigSep Finset.univ fun k : Option Xf => atPos ER (kcell (c, k)) 0 ∅ 0) ∗ bigSep Finset.univ fun j : Job => tok (falls c j) j)
def G' (c : Dev nD) : sProp 𝕄 := iprop(∃ K, known m ρ K ∗ mine c)

theorem with_known {S R : Dev nD → sProp 𝕄} {P : sProp 𝕄} [BI.Persistent P] (h : ∀ c, iprop(P ∗ S c) ⊢ R c) :
    iprop(P ∗ bigSep Finset.univ S) ⊢ bigSep Finset.univ R :=
  (sep_mono_left (BI.bigSep_of_persistent Finset.univ P)).trans (by rw [← bigSep_sep']; exact bigSep_mono fun c _ => h c)

theorem deal :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ bigSep Finset.univ fun j : Job => tok c j) : sProp 𝕄)
      ⊢ bigSep Finset.univ (G' m ρ) := by
  rw [bigSep_sep', bigSep_sep', ← BI.bigSep_univ_prod (fun ck : Dev nD × Option Xf => iprop(∃ κ : ℕ, cellInv ER (rd m ρ) κ (kcell ck))),
    bigSep_congr (s := Finset.univ) (fun (c : Dev nD) _ => bigSep_sep' Finset.univ (fun k : Option Xf => (atPos ER (kcell (c, k)) 0 ∅ 0 : sProp 𝕄)) (fun k => reached ER (kcell (c, k)) 0)),
    bigSep_sep', ← BI.bigSep_univ_prod (fun ck : Dev nD × Option Xf => (reached ER (kcell ck) 0 : sProp 𝕄)), toks_go]
  iintro ⟨HI, ⟨Hat, #HR⟩, Htok⟩
  ihave HK := (BI.bigSep_exists_pi Finset.univ (fun (ck : Dev nD × Option Xf) (κ : ℕ) => (cellInv ER (rd m ρ) κ (kcell ck) : sProp 𝕄))) $$ HI
  icases HK with ⟨%K, #HI⟩
  have hm : (bigSep Finset.univ fun c : Dev nD => (mine c : sProp 𝕄))
      = iprop((bigSep Finset.univ fun c : Dev nD => bigSep Finset.univ fun k : Option Xf => atPos ER (kcell (c, k)) 0 ∅ 0)
        ∗ bigSep Finset.univ fun c : Dev nD => bigSep Finset.univ fun j : Job => tok (falls c j) j) := by unfold mine; rw [bigSep_sep']
  have hg (c : Dev nD) : iprop(known m ρ K ∗ mine c) ⊢ G' m ρ c := by
    unfold G'; iintro H; iexists K; iexact H
  iapply (with_known hg)
  isplitr
  · unfold known; isplitl; · iexact HI
    iexact HR
  · iapply (Entails.of_eq hm.symm)
    iframe

theorem glob : (bigSep Finset.univ fun c => iprop(ownZero c ∗ unscopedSems0 c ∗ G m ρ c) : sProp 𝕄) ⊢ |={Set.univ}=> bigSep Finset.univ (G' m ρ) :=
  ((bigSep_mono fun c _ => make_cells m ρ c).trans (bigSep_fupd _ _)).trans (BI.fupd_mono (deal m ρ))

end Cert.KernelIdeal.Sq

end
-- ==== Proof.Run.lean ====
/-
# The run of the four devices

The credits a launch brings are what the partners owe: two signals to a barrier, one transfer to every landing. With
them, and with what is dealt, every device's body runs; the run ends with each result array at the computed contents and
every semaphore at zero.
-/
module

public import proofs.«01_k».proof.Proof.Deal
public import Idealize.ShloMosaic.Lib.Pipeline.CollectiveSegs

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-! ## Credits -/

theorem bar_inj {a b : Dev nD} (h : barCell a = barCell b) : a = b := congrArg (fun g : GSem nD τ sig => g.1.1) h
theorem recv_inj {a b : Dev nD} {s ph s' ph' : Fin 4} (h : recvCell a s ph = recvCell b s' ph') : a = b ∧ s = s' ∧ ph = ph' := by
  have h' := kcell_injective (a₁ := (a, some (true, s, ph))) (a₂ := (b, some (true, s', ph'))) h
  have h1 : a = b := congrArg Prod.fst h'
  have h2 : (true, s, ph) = (true, s', ph') := Option.some.inj (congrArg Prod.snd h')
  exact ⟨h1, congrArg (fun x : Xf => x.2.1) h2, congrArg (fun x : Xf => x.2.2) h2⟩
theorem recv_ne_bar (a b : Dev nD) (s ph : Fin 4) : recvCell a s ph ≠ barCell b := fun h => by
  have := congrArg Prod.snd h; cases this

/-- To a landing, the sends owe one transfer: that of the partner across. -/
theorem sends_owe (d c : Dev nD) (s ph : Fin 4) : owedFrom d 0 (recvCell c s ph) () = if d = peer c s ph then amt ph else 0 := by
  have hs := s.isLt
  have hp := ph.isLt
  unfold owedFrom
  rw [Finset.sum_apply, Finsupp.finset_sum_apply, Finset.sum_eq_single (4 * ph.val + s.val)]
  · unfold owe1
    rw [iS_eq, iP_eq, tallyAt_apply]
    by_cases h : d = peer c s ph
    · rw [if_pos h, if_pos ⟨by rw [h, peer_peer], rfl⟩]
    · rw [if_neg h, if_neg fun h' => h (by rw [(recv_inj h'.1).1, peer_peer])]
  · intro i hi hne
    rw [Finset.mem_Ico] at hi
    unfold owe1
    rw [tallyAt_apply, if_neg]
    rintro ⟨h, -⟩
    obtain ⟨-, h1, h2⟩ := recv_inj h
    refine hne ?_
    rw [h1, h2]; simp only [iS, iP]; omega
  · intro h
    exact absurd (Finset.mem_Ico.mpr ⟨Nat.zero_le _, by omega⟩) h
theorem sends_owe_bar (d c : Dev nD) : owedFrom d 0 (barCell c) () = 0 := by
  by_contra h
  obtain ⟨i, -, -, h⟩ := owedFrom_pos (Nat.pos_of_ne_zero h)
  exact recv_ne_bar _ _ _ _ h.symm

theorem owes_recv (d c : Dev nD) (s ph : Fin 4) : O₀ d (recvCell c s ph) () = if d = peer c s ph then amt ph else 0 := by
  unfold O₀
  rw [Pi.add_apply, Finsupp.add_apply, Pi.add_apply, Finsupp.add_apply, tallyAt_ne_cell (recv_ne_bar _ _ _ _), tallyAt_ne_cell (recv_ne_bar _ _ _ _),
    sends_owe]
  rfl
theorem signal_owe (d c : Dev nD) (b : Bool) : tallyAt (barCell (partner d b)) () 1 (barCell c) () = if d = partner c b then 1 else 0 := by
  rw [tallyAt_apply]
  by_cases h : d = partner c b
  · rw [if_pos h, if_pos ⟨by rw [h, partner_partner], rfl⟩]
  · rw [if_neg h, if_neg fun h' => h (by rw [bar_inj h'.1, partner_partner])]
theorem owes_bar (d c : Dev nD) : O₀ d (barCell c) () = (if d = partner c true then 1 else 0) + (if d = partner c false then 1 else 0) := by
  unfold O₀
  rw [Pi.add_apply, Finsupp.add_apply, Pi.add_apply, Finsupp.add_apply, sends_owe_bar, signal_owe, signal_owe, Nat.zero_add]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (partner c true) fun _ => 1, Finset.sum_ite_eq' Finset.univ (partner c false) fun _ => 1,
    if_pos (Finset.mem_univ _), if_pos (Finset.mem_univ _)]
theorem credit_recv (c : Dev nD) (s ph : Fin 4) :
    tallyOn (recvCell c s ph) (launchCredit (Pipeline.owing O₀) 0 (recvCell c s ph)) = (tallyAt (recvCell c s ph) () (amt ph) : CellTallies nD τ sig Unit) := by
  unfold tallyAt; refine congrArg _ (Finsupp.ext fun u => ?_); cases u
  rw [Pipeline.launchCredit_owing, Finsupp.single_eq_same, Finset.sum_congr rfl fun d _ => owes_recv d c s ph,
    Finset.sum_ite_eq' Finset.univ (peer c s ph) fun _ => amt ph, if_pos (Finset.mem_univ _)]

/-- The credit the launch brings for a cell. -/
abbrev crd (g : GSem nD τ sig) : sProp 𝕄 := cred (tallyOn g (launchCredit (Pipeline.owing O₀) 0 g))
theorem crd_recv (c : Dev nD) (s ph : Fin 4) : (iprop(crd (sendCell c s ph) ∗ crd (recvCell c s ph)) : sProp 𝕄) ⊢ cred (tallyAt (recvCell c s ph) () (amt ph)) := by
  unfold crd; rw [credit_recv]; iintro ⟨-, H⟩; iexact H

theorem credits (c : Dev nD) : (Pipeline.launchCred O₀ c : sProp 𝕄)
    ⊢ iprop(cred (tallyAt (barCell c) () 2) ∗ bigSep Finset.univ fun s : Fin 4 => bigSep Finset.univ fun ph : Fin 4 => cred (tallyAt (recvCell c s ph) () (amt ph))) := by
  have h1 : (Pipeline.launchCred O₀ c : sProp 𝕄) ⊢ iprop(crd (barCell c)
      ∗ bigSep Finset.univ fun s : Fin 4 => bigSep Finset.univ fun ph : Fin 4 => iprop(crd (sendCell c s ph) ∗ crd (recvCell c s ph))) :=
    BIBase.Entails.trans (BI.bigSep_subset (t := Finset.univ.map ⟨ksem, ksem_injective⟩) (Finset.subset_univ _))
      (Entails.of_eq (by rw [BI.bigSep_map, over_cells, over_xf]; rfl))
  have h2 : (bigSep Finset.univ fun s : Fin 4 => bigSep Finset.univ fun ph : Fin 4 => iprop(crd (sendCell c s ph) ∗ crd (recvCell c s ph)) : sProp 𝕄)
      ⊢ bigSep Finset.univ fun s : Fin 4 => bigSep Finset.univ fun ph : Fin 4 => cred (tallyAt (recvCell c s ph) () (amt ph)) :=
    bigSep_mono fun s _ => bigSep_mono fun ph _ => crd_recv c s ph
  iintro H
  ihave H := h1 $$ H
  icases H with ⟨HB, H⟩
  isplitl [HB]
  · ihave HB := (Entails.of_eq (congrArg (fun t => (cred t : sProp 𝕄)) (credit_bar c))) $$ HB
    iexact HB
  · iapply h2 $$ H

/-! ## In and out of the one point -/

/-- Positions, tokens and credits, exchange by exchange. -/
theorem ticks_of (c : Dev nD) :
    (iprop((bigSep Finset.univ fun s : Fin 4 => bigSep Finset.univ fun ph : Fin 4 => iprop(atPos ER (sendCell c s ph) 0 ∅ 0 ∗ atPos ER (recvCell c s ph) 0 ∅ 0))
      ∗ (bigSep Finset.univ fun s : Fin 4 => bigSep Finset.univ fun ph : Fin 4 =>
            iprop(dutyTok ER (sendCell c s ph) 0 false ∗ dutyTok ER (recvCell (peer c s ph) s ph) 0 false))
      ∗ bigSep Finset.univ fun s : Fin 4 => bigSep Finset.univ fun ph : Fin 4 => cred (tallyAt (recvCell c s ph) () (amt ph))) : sProp 𝕄)
      ⊢ bigSep Finset.univ fun s => ticks c s := by
  have h (s : Fin 4) : iprop((bigSep Finset.univ fun ph : Fin 4 => iprop(atPos ER (sendCell c s ph) 0 ∅ 0 ∗ atPos ER (recvCell c s ph) 0 ∅ 0))
      ∗ (bigSep Finset.univ fun ph : Fin 4 => iprop(dutyTok ER (sendCell c s ph) 0 false ∗ dutyTok ER (recvCell (peer c s ph) s ph) 0 false))
      ∗ bigSep Finset.univ fun ph : Fin 4 => cred (tallyAt (recvCell c s ph) () (amt ph))) ⊢ (ticks c s : sProp 𝕄) := by
    unfold ticks tick
    simp only [bigSep_four]
    iintro ⟨⟨⟨A0, B0⟩, ⟨A1, B1⟩, ⟨A2, B2⟩, ⟨A3, B3⟩⟩, ⟨⟨C0, D0⟩, ⟨C1, D1⟩, ⟨C2, D2⟩, ⟨C3, D3⟩⟩, E0, E1, E2, E3⟩
    iframe
  have h' := bigSep_mono (s := (Finset.univ : Finset (Fin 4))) fun s _ => h s
  rw [bigSep_sep', bigSep_sep'] at h'
  exact h'

theorem ghost_of (c : Dev nD) : iprop(levAts L lv ∗ Pipeline.launchCred O₀ c ∗ G' m ρ c) ⊢ start m ρ c := by
  unfold G' start mine known
  rw [over_cells, over_xf]
  iintro ⟨#HL, Hc, %K, ⟨#HI, #HR⟩, ⟨Hb, Hat⟩, Hp⟩
  ihave Hc := (credits (F := F) c) $$ Hc
  icases Hc with ⟨HB, Hc⟩
  ihave Hp := (pay_split (F := F) c) $$ Hp
  icases Hp with ⟨⟨Hf, Ht⟩, Hp⟩
  iexists K
  unfold ghost records
  isplitr
  · isplitr; · iexact HI
    isplitr; · iexact HR
    iexact HL
  isplitl [Hb]; · iexact Hb
  isplitl [Hf]; · iexact Hf
  isplitl [Ht]; · iexact Ht
  isplitl [HB]; · iexact HB
  iapply (ticks_of c)
  isplitl [Hat]; · iexact Hat
  isplitl [Hp] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, HL, Hc, -, HG⟩
  imodintro
  isplitl
  · iapply (ghost_of m ρ c); iframe
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs some'
  iintro ⟨Hs, -, H⟩
  isplitl [Hs]; · iexact Hs
  iexact H

theorem phi_out (c : Dev nD) :
    (dats m ρ 0 c).Φ (Fin.last cfg0.N) ⊢ iprop(unscopedSems0 c ∗ ownZero c ∗ Pipeline.scopedRest cfg0.spec c) := by
  rw [show (dats m ρ 0 c).Φ (Fin.last cfg0.N) = Φ₁ c from rfl, scopedRest0_eq, own_overs, unscoped_bar]
  unfold Φ₁ bufs some'
  iintro ⟨Hz, HV, H⟩
  isplitl [Hz]; · iexact Hz
  isplitl [HV]; · iexact HV
  iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem ownSemFacts : Pipeline.OwnSemFacts cfg0.spec osem := by decide
theorem share_eq (c : Dev nD) (w : Fin cfg0.W) : (dats m ρ 0 c).share w = fullShare := by unfold Dat.share; split <;> rfl

/-! ## The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution on the four devices ends, with the arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are left as they were. -/
theorem final_x (c : Dev nD) : finalA m ρ c (0 : Fin 3) = (s₀ m ρ).mem ((cfg0.win (0 : Fin 3)).arr.view.loc (c : Thread nD τ)) :=
  (dats (F := F) m ρ 0 c).arrAt_in (0 : Fin 3) rfl _
theorem final_y (c : Dev nD) : finalA m ρ c (1 : Fin 3) = (s₀ m ρ).mem ((cfg0.win (1 : Fin 3)).arr.view.loc (c : Thread nD τ)) :=
  (dats (F := F) m ρ 0 c).arrAt_in (1 : Fin 3) rfl _

end Cert.KernelIdeal.Sq

end
-- ==== Proof.Value.lean ====
/-
# The value over the reals

Over the extended reals a change of format changes nothing, so every quarter a device finishes is the activation of the
sum of the four devices' products there, and the result every device assembles is the same array.
-/
module

public import proofs.«01_k».proof.Proof.Run
public import Idealize.ShloMosaic.Lib.Pointwise
public import Idealize.ShloMosaic.Lib.IdealHost

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat)

/-! ## The staged arrays are the whole arrays -/

section Arrays
variable {F : FTy → Type} [FloatOps F]
variable (m : (ℓ : Loc nD τ sig) → Buf (Elt F) ℓ) (ρ : Dev nD → PrngReg)

theorem read_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_y (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_out (f : main_v1.ty.Contents (Elt F)) : (win0_2.blk (0 : Fin 1)).view.read (Elt F) f = f :=
  Memref.read_access_unit_zero (Elt F) main_v1 (funext fun a => by fin_cases a <;> decide) (fun a => by fin_cases a <;> decide) f

theorem xA_eq (c : Dev nD) : xA m ρ c = m ((c : Thread nD τ).loc main_arg0) := read_x _
theorem xB_eq (c : Dev nD) : xB m ρ c = m ((c : Thread nD τ).loc main_arg1) := read_y _

theorem final_out (c : Dev nD) : finalA m ρ c (2 : Fin 3) = OUT m ρ c := by
  have h : (win0_2.blk (0 : Fin 1)).view.read (Elt F) (finalA m ρ c (2 : Fin 3)) = OUT m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 _, if_pos rfl]
    exact View.read_write_univ _ _
  exact (read_out _).symm.trans h
end Arrays

/-! ## Payloads at an element -/

/-- The activation as the kernel computes it. -/
def silu (z : EReal) : EReal := z * Ideal.div 1 (1 + Ideal.exp (0 - z))

section Payloads
theorem pay10_at (a : Vec Ideal S768x768 .bf16) (b : Vec Ideal S768x384 .bf16) (j : S768x384.Idx) :
    k0_pay10 a b j = ∑ k : Fin 768, a (ix2 (j 0) k) * b (ix2 k (j 1)) := by
  rw [eq_ix2 j]; unfold k0_pay10; pointwise
theorem pay4_at (a : Vec Ideal S768x768 .bf16) (b : Vec Ideal S768x384 .bf16) (j : S1x768x384.Idx) :
    k0_pay4 a b j = ∑ k : Fin 768, a (ix2 (j 1) k) * b (ix2 k (j 2)) := by
  rw [eq_ix3 j]; unfold k0_pay4; pointwise
theorem pay15_at (a : Vec Ideal S384x384 .f32) (b : Vec Ideal S1x384x384 .bf16) (j : S384x384.Idx) :
    k0_pay15 a b j = a j + b (ix3 0 (j 0) (j 1)) := by
  rw [eq_ix2 j]; unfold k0_pay15; pointwise
theorem pay16_at (a : Vec Ideal S384x384 .f32) (b : Vec Ideal S1x384x384 .bf16) (j : S1x384x384.Idx) :
    k0_pay16 a b j = a (ix2 (j 1) (j 2)) + b j := by
  rw [eq_ix3 j]; unfold k0_pay16; pointwise
theorem pay22_at (a : Vec Ideal S384x384 .f32) (b : Vec Ideal S1x384x384 .bf16) (j : S384x384.Idx) :
    k0_pay22 a b j = silu (a j + b (ix3 0 (j 0) (j 1))) := by
  rw [eq_ix2 j]; unfold k0_pay22 silu; pointwise
theorem pay23_at (a : Vec Ideal S384x384 .f32) (b : Vec Ideal S1x384x384 .bf16) (j : S1x384x384.Idx) :
    k0_pay23 a b j = k0_pay22 a b (ix2 (j 1) (j 2)) := by
  rw [eq_ix3 j]; unfold k0_pay23; pointwise
theorem pay32_at (b : Vec Ideal S1x384x384 .bf16) (j : S384x384.Idx) : k0_pay32 b j = b (ix3 0 (j 0) (j 1)) := by
  rw [eq_ix2 j]; unfold k0_pay32; pointwise
theorem pay36_at (b : Vec Ideal S1x768x384 .bf16) (j : S768x384.Idx) : k0_pay36 b j = b (ix3 0 (j 0) (j 1)) := by
  rw [eq_ix2 j]; unfold k0_pay36; pointwise
theorem pay2_at (a : Vec Ideal S1536x768 .f32) (j : S1536x768.Idx) : k0_pay2 a j = a j := by
  rw [eq_ix2 j]; unfold k0_pay2; pointwise
theorem pay3_at (a : Vec Ideal S768x1536 .f32) (j : S768x1536.Idx) : k0_pay3 a j = a j := by
  rw [eq_ix2 j]; unfold k0_pay3; pointwise
end Payloads

end Cert.KernelIdeal.Sq

end
-- ==== Proof.Final.lean ====
/-
# Every device assembles the same array

At an element of the result the four devices' products are summed, in an order that depends on the device finishing the
element, and put through the activation. Whichever way the element then reaches a device, its value is the same.
-/
module

public import proofs.«01_k».proof.Proof.Value

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- The blocks of device `d`, as arrays of extended reals. -/
def eA (d : Dev nD) : S1536x768.Idx → EReal := xA m ρ d
def eB (d : Dev nD) : S768x1536.Idx → EReal := xB m ρ d

/-- What device `d` contributes to element `i` of the product. -/
def part (d : Dev nD) (i : S1536x1536.Idx) : EReal :=
  ∑ k : Fin 768, eA m ρ d (ix2 (i 0) k) * eB m ρ d (ix2 k (i 1))
/-- Element `i` of the result. -/
def whole (i : S1536x1536.Idx) : EReal := silu (∑ d, part m ρ d i)

theorem hA_at (d : Dev nD) (r : Fin 2) (j : S768x768.Idx) : hA m ρ d r j = eA m ρ d ((rA r).emb j) :=
  pay2_at (xA m ρ d) ((rA r).emb j)
theorem hB_at (d : Dev nD) (s : Fin 4) (j : S768x384.Idx) : hB m ρ d s j = eB m ρ d ((rB s).emb j) :=
  pay3_at (xB m ρ d) ((rB s).emb j)

/-- One product of a half and a stream, at the element of the whole result it belongs to. -/
theorem product_at (d : Dev nD) (r q : Fin 2) (s : Fin 4) (j : S384x384.Idx) (a : Fin 768) (b : Fin 384)
    (ha : a.val = q.val * 384 + (j 0 : Nat)) (hb : b.val = (j 1 : Nat)) :
    (∑ k : Fin 768, hA m ρ d r (ix2 a k) * hB m ρ d s (ix2 k b)) = part m ρ d ((rQ r q s).emb j) := by
  unfold part
  refine Finset.sum_congr rfl fun k _ => ?_
  rw [hA_at, hB_at]
  congr 2 <;>
  · funext x
    refine Fin.ext ?_
    rw [Rect.emb_apply]
    fin_cases x <;> simp [ix2, Rect.emb_apply, oA, oQ] <;> omega

theorem ownQ_at (c : Dev nD) (s : Fin 4) (q : Fin 2) (j : S384x384.Idx) :
    ownQ m ρ c s q j = part m ρ c ((rQ (half c s) q s).emb j) := by
  unfold ownQ own
  rw [pay10_at]
  exact product_at m ρ c _ q s j _ _ (by rw [Rect.emb_apply]; simp) (by rw [Rect.emb_apply]; simp)

theorem v1Q_at (c : Dev nD) (s : Fin 4) (q : Fin 2) (j : S384x384.Idx) :
    v1Q m ρ c s q (ix3 0 (j 0) (j 1)) = part m ρ c ((rQ (1 - half c s) q s).emb j) := by
  unfold v1Q v1
  rw [pay4_at]
  exact product_at m ρ c _ q s j _ _ (by rw [Rect.emb_apply]; simp [ix3]) (by rw [Rect.emb_apply]; simp [ix3])

theorem pair_at (c : Dev nD) (s : Fin 4) (q : Fin 2) (j : S384x384.Idx) :
    ownQ m ρ c s q j + v1Q m ρ (pa c s) s q (ix3 0 (j 0) (j 1))
      = part m ρ c ((rQ (half c s) q s).emb j) + part m ρ (pa c s) ((rQ (half c s) q s).emb j) := by
  rw [ownQ_at, v1Q_at, half_pa, sub_sub_fin2]

/-- The four devices, met in the order a stream sums them. -/
theorem sum_around (f : Dev nD → EReal) (c : Dev nD) (s : Fin 4) :
    f c + f (pa c s) + (f (pb c s) + f (pa (pb c s) s)) = ∑ d, f d := by
  rw [← devs_around c s, Finset.sum_insert (by revert c s; decide), Finset.sum_insert (by revert c s; decide),
    Finset.sum_insert (by revert c s; decide), Finset.sum_singleton, add_assoc]

theorem fin_emb (c : Dev nD) (s : Fin 4) (j : S384x384.Idx) :
    fin m ρ c s j = whole m ρ ((rQ (half c s) (quar c s) s).emb j) := by
  unfold fin whole
  rw [pay22_at]
  unfold acc v2
  rw [pay15_at, pay16_at]
  have h := pair_at m ρ (pb c s) s (1 - quar (pb c s) s) j
  rw [half_pb, quar_pb, sub_sub_fin2] at h
  rw [pair_at, quar_pb, sub_sub_fin2, ← sum_around _ c s, ← h, eq_ix2 j]
  rfl

/-- The device that finishes an element has it right. -/
theorem fin_at (d : Dev nD) (i : S1536x1536.Idx) (hh : (i 0 : Nat) / 768 = (half d (strm i)).val)
    (hq : (i 0 : Nat) % 768 / 384 = (quar d (strm i)).val) : fin m ρ d (strm i) (inQuarter i) = whole m ρ i := by
  rw [fin_emb, emb_quarter i _ _ hh hq]

/-- So has whoever it sends the element to. -/
theorem v3_at (d : Dev nD) (s : Fin 4) (j : S1x384x384.Idx) : v3 m ρ d s j = fin m ρ d s (ix2 (j 1) (j 2)) := by
  unfold v3 fin
  exact pay23_at _ _ _

theorem OUT_at (c : Dev nD) (i : S1536x1536.Idx) : OUT m ρ c i = whole m ρ i := by
  have h0 : (i 0 : Nat) < 1536 := (i 0).isLt
  have e3 : ∀ d : Dev nD, v3 m ρ d (strm i) (ix3 0 (inQuarter i 0) (inQuarter i 1)) = fin m ρ d (strm i) (inQuarter i) :=
    fun d => (v3_at m ρ d _ _).trans (congrArg _ (eq_ix2 (inQuarter i)).symm)
  unfold OUT
  split
  · next hr =>
    split
    · next hq => exact fin_at m ρ c i hr hq
    · next hq =>
      rw [pay32_at, e3]
      exact fin_at m ρ _ i (by rw [half_pb, hr]) (by rw [quar_pb, val_sub]; have := f2 (quar c (strm i)); omega)
  · next hr =>
    have hp : (i 0 : Nat) / 768 = (half (pa c (strm i)) (strm i)).val := by
      rw [half_pa, val_sub]; have := f2 (half c (strm i)); omega
    have ei : inQ (ix3 0 (inHalf i 0) (inHalf i 1)) = ix3 0 (inQuarter i 0) (inQuarter i 1) := by
      funext x
      refine Fin.ext ?_
      fin_cases x
      · rfl
      · simp [inQ, ix3, inHalf, inQuarter]
      · rfl
    have e4 : v4 m ρ (pa c (strm i)) (strm i) (ix3 0 (inHalf i 0) (inHalf i 1)) = whole m ρ i := by
      unfold v4
      rw [ei]
      split
      · next hq => exact (e3 _).trans (fin_at m ρ _ i hp hq)
      · next hq =>
        replace hq : ¬ (i 0 : Nat) % 768 / 384 = (quar (pa c (strm i)) (strm i)).val := hq
        exact (e3 _).trans
          (fin_at m ρ _ i (by rw [half_pb, hp]) (by rw [quar_pb, val_sub]; have := f2 (quar (pa c (strm i)) (strm i)); omega))
    exact (pay36_at _ _).trans e4

end Cert.KernelIdeal.Sq

end
-- ==== Proof.Meets.lean ====
/-
# The reference computes the same array

The reference's contraction over all 3072 positions is the sum, over the four devices, of the contraction over the 768
positions each of them holds, and its quotient is the kernel's product with a reciprocal.
-/
module

public import proofs.«01_k».proof.Proof.Final
public import proofs.«01_k».proof.Proof.Gen.ReferenceIdeal.Run
public import Idealize.ShloMosaic.Lib.Layout
public import Idealize.ShloMosaic.Lib.Pointwise.Sums

@[expose] public section

noncomputable section

namespace Cert.KernelIdeal.Sq

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The exponential is never negative. -/
theorem zero_le_exp (z : EReal) : 0 ≤ Ideal.exp z := by
  induction z using EReal.rec with
  | bot => exact le_refl _
  | top => exact le_top
  | coe r => exact EReal.coe_nonneg.mpr (Real.exp_pos r).le

theorem one_add_exp (z : EReal) : 1 + Ideal.exp z ≠ 0 := by
  have h := Ideal.one_add_sum_ne_zero (Finset.univ : Finset Unit) (fun _ => Ideal.exp z) fun _ _ => zero_le_exp z
  simpa using h

/-- The two spellings of the activation. -/
theorem silu_eq (z : EReal) : silu z = Ideal.div z (1 + Ideal.exp (-z)) := by
  unfold silu
  rw [zero_sub, Ideal.mul_one_div (one_add_exp _)]

/-- What the reference computes, as its program spells it. -/
def refOut (x : FVec Ideal Cert.ReferenceIdeal.S1536x3072 .f32) (y : FVec Ideal Cert.ReferenceIdeal.S3072x1536 .f32) :
    FVec Ideal Cert.ReferenceIdeal.S1536x1536 .f32 :=
  let z := Host.dotGeneral Cert.ReferenceIdeal.dot_S1536x3072_S3072x1536_S1536x1536_1_0_0_1_n_n none x y
  Host.divf z (addf (broadcastInDim Cert.ReferenceIdeal.S1536x1536 ![] Cert.ReferenceIdeal.Gen.bcast_S_S1536x1536
    (constant Cert.ReferenceIdeal.S_ .f32 0x3F800000#32)) (Host.exp (Host.negf z)))

theorem refOut_at (x : FVec Ideal Cert.ReferenceIdeal.S1536x3072 .f32) (y : FVec Ideal Cert.ReferenceIdeal.S3072x1536 .f32)
    (i : S1536x1536.Idx) : refOut x y i = silu (∑ k : Fin 3072, x (ix2 (i 0) k) * y (ix2 k (i 1))) := by
  rw [silu_eq, eq_ix2 i]; unfold refOut; pointwise

/-- The whole contraction, device by device. -/
theorem contraction (x : Cert.ReferenceIdeal.S1536x3072.Idx → EReal) (y : Cert.ReferenceIdeal.S3072x1536.Idx → EReal)
    (m : (ℓ : Loc nD τ sig) → Buf (Elt Ideal) ℓ) (ρ : Dev nD → PrngReg)
    (hx : ∀ c : Dev nD, m ((c : Thread nD τ).loc main_arg0) = Layout.block ⟨2, ![1536, 768]⟩ ⟨2, ![1536, 3072]⟩ 1 4 c x)
    (hy : ∀ c : Dev nD, m ((c : Thread nD τ).loc main_arg1) = Layout.block ⟨2, ![768, 1536]⟩ ⟨2, ![3072, 1536]⟩ 0 4 c y)
    (i : S1536x1536.Idx) : (∑ k : Fin 3072, x (ix2 (i 0) k) * y (ix2 k (i 1))) = ∑ d, part m ρ d i := by
  rw [Fin.sum_univ_tiles 4 768 rfl]
  refine Finset.sum_congr rfl fun d _ => Finset.sum_congr rfl fun k _ => ?_
  have e1 : eA m ρ d (ix2 (i 0) k) = Layout.block ⟨2, ![1536, 768]⟩ ⟨2, ![1536, 3072]⟩ 1 4 d x (by decide) (ix2 (i 0) k) :=
    congrFun ((xA_eq m ρ d).trans (hx d)) _
  have e2 : eB m ρ d (ix2 k (i 1)) = Layout.block ⟨2, ![768, 1536]⟩ ⟨2, ![3072, 1536]⟩ 0 4 d y (by decide) (ix2 k (i 1)) :=
    congrFun ((xB_eq m ρ d).trans (hy d)) _
  rw [e1, e2, Layout.block_apply, Layout.block_apply]
  congr 2 <;>
  · funext a
    refine Fin.ext ?_
    fin_cases a <;> rfl

/-- Every device's result is the reference's. -/
theorem OUT_eq (x : FVec Ideal Cert.ReferenceIdeal.S1536x3072 .f32) (y : FVec Ideal Cert.ReferenceIdeal.S3072x1536 .f32)
    (m : (ℓ : Loc nD τ sig) → Buf (Elt Ideal) ℓ) (ρ : Dev nD → PrngReg)
    (hx : ∀ c : Dev nD, m ((c : Thread nD τ).loc main_arg0) = Layout.block ⟨2, ![1536, 768]⟩ ⟨2, ![1536, 3072]⟩ 1 4 c x)
    (hy : ∀ c : Dev nD, m ((c : Thread nD τ).loc main_arg1) = Layout.block ⟨2, ![768, 1536]⟩ ⟨2, ![3072, 1536]⟩ 0 4 c y)
    (c : Dev nD) : OUT m ρ c = refOut x y :=
  funext fun i => (OUT_at m ρ c i).trans (((refOut_at x y i).trans (congrArg silu (contraction x y m ρ hx hy i))).symm)

end Cert.KernelIdeal.Sq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Meets
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel's four devices ends, with the operands as they were and every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c (0 : Fin 3)).trans (Cert.KernelIdeal.Sq.final_x m ρ c),
      (h.1 c (1 : Fin 3)).trans (Cert.KernelIdeal.Sq.final_y m ρ c)⟩, h.2⟩)
    (Cert.KernelIdeal.Sq.run_main m ρ)

/-- The kernel and its reading over the reals have one body, whatever a float is. -/
theorem defs_same {F : FTy → Type} [FloatOps F] : Cert.KernelIdeal.defs (F := F) = Cert.Kernel.defs (F := F) := by
  refine congrArg (Pipeline.defs Cert.Kernel.pcfgs) (congrArg Defs.onTc (funext fun l => funext fun a => ?_))
  match l, a with
  | 0, (t, s) => rfl

theorem frame_kernel : Cert.quiescent_Kernel := fun m ρ _ => by
  rw [← defs_same]
  exact frame_any (F := Bits) m ρ
theorem frame_ideal : Cert.quiescent_KernelIdeal := fun m ρ _ => frame_any (F := Ideal) m ρ

/-- The reference leaves its operands as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device ends with the reference's whole result. -/
theorem value : Cert.algebraic_KernelIdeal_ReferenceIdeal := fun m ρ m' ρ' _ hagree =>
  ⟨Cert.KernelIdeal.Sq.refOut _ _,
    (θ_run Cert.KernelIdeal.defs _ _).mono
      (fun _ h c => ⟨(h.1 c (2 : Fin 3)).trans ((Cert.KernelIdeal.Sq.final_out m ρ c).trans
          (Cert.KernelIdeal.Sq.OUT_eq _ _ m ρ (fun d => (hagree d).1) (fun d => (hagree d).2) c)),
        (h.1 c (0 : Fin 3)).trans (Cert.KernelIdeal.Sq.final_x m ρ c),
        (h.1 c (1 : Fin 3)).trans (Cert.KernelIdeal.Sq.final_y m ρ c)⟩)
      (Cert.KernelIdeal.Sq.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
